-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite [hPre_finite : Cert.Pre_finite.Facts] (m : (ℓ : Loc Cert.ScanIdeal.nD Cert.ScanIdeal.τ Cert.ScanIdeal.sig) → Buf (Elt Ideal) ℓ) : Prop :=
  ∀ c : Dev Cert.ScanIdeal.nD,
    (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite [hPre_finite : Cert.Pre_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanIdeal_pre_finite [hScanIdeal : Cert.ScanIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_ScanRefIdeal_pre_finite [hScanRefIdeal : Cert.ScanRefIdeal.Facts] [hPre_finite : Cert.Pre_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Scan_ScanIdeal : Prop :=
  True

def algebraic_ScanIdeal_ScanRefIdeal_pre_finite [hScanIdeal : Cert.ScanIdeal.Facts] [hScanRefIdeal : Cert.ScanRefIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v17) = v0 c
          ∧ r.2.mem ((c.tc : Thread Cert.ScanRefIdeal.nD Cert.ScanRefIdeal.τ).loc Cert.ScanRefIdeal.main_v26) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hScan : Cert.Scan.Facts) (hScanIdeal : Cert.ScanIdeal.Facts) (hScanRefIdeal : Cert.ScanRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hPre_finite : Cert.Pre_finite.Facts),
    quiescent_Scan (hScan := hScan)
    ∧ quiescent_ScanIdeal (hScanIdeal := hScanIdeal)
    ∧ quiescent_ScanIdeal_pre_finite (hScanIdeal := hScanIdeal) (hPre_finite := hPre_finite)
    ∧ quiescent_ScanRefIdeal (hScanRefIdeal := hScanRefIdeal)
    ∧ quiescent_ScanRefIdeal_pre_finite (hScanRefIdeal := hScanRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ preserves_Scan_ScanIdeal
    ∧ algebraic_ScanIdeal_ScanRefIdeal_pre_finite (hScanIdeal := hScanIdeal) (hScanRefIdeal := hScanRefIdeal) (hPre_finite := hPre_finite)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
-- ==== Pre_finite.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_arg4 : FVec F S16384x512 .f32) (main_arg5 : FVec F S16384x512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  main_v28

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_v13 main_v16
-- ==== Scan.lean ====
abbrev S16384x512 : Shape := ⟨2, ![16384, 512]⟩
abbrev S4x4x128x128 : Shape := ⟨4, ![4, 4, 128, 128]⟩
abbrev S128x512 : Shape := ⟨2, ![128, 512]⟩
abbrev S1x4x128x128 : Shape := ⟨4, ![1, 4, 128, 128]⟩
abbrev S4x128x128 : Shape := ⟨3, ![4, 128, 128]⟩
abbrev S1x128 : Shape := ⟨2, ![1, 128]⟩
abbrev S128x128 : Shape := ⟨2, ![128, 128]⟩
abbrev S1x512 : Shape := ⟨2, ![1, 512]⟩
abbrev S1x128x128 : Shape := ⟨3, ![1, 128, 128]⟩
abbrev S256x128 : Shape := ⟨2, ![256, 128]⟩
abbrev S256x256 : Shape := ⟨2, ![256, 256]⟩
abbrev S128x256 : Shape := ⟨2, ![128, 256]⟩

abbrev nBuf : Space → Nat
  | .hbm => 8
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S4x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v879 : BitVec 1 := Scalar.cmpi .eq arg1 c31_i32
  let v880 : BitVec 32 := Scalar.extui v879
  let c0_i32_189 : BitVec 32 := 0#32
  let v881 : BitVec 1 := Scalar.cmpi .ne v880 c0_i32_189
  v881

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ScanRefIdeal.lean ====
abbrev S16384x512 : Shape := ⟨2, ![16384, 512]⟩
abbrev S4x4096x8x64 : Shape := ⟨4, ![4, 4096, 8, 64]⟩
abbrev S4096x4x8x64 : Shape := ⟨4, ![4096, 4, 8, 64]⟩
abbrev S_ : Shape := ⟨0, ![]⟩
abbrev S4x8x64x64 : Shape := ⟨4, ![4, 8, 64, 64]⟩
abbrev S1x4x8x64 : Shape := ⟨4, ![1, 4, 8, 64]⟩
abbrev S4x8x64 : Shape := ⟨3, ![4, 8, 64]⟩
abbrev S4x8x1x64 : Shape := ⟨4, ![4, 8, 1, 64]⟩
abbrev S4x8x64x1 : Shape := ⟨4, ![4, 8, 64, 1]⟩
abbrev S4x4x2x64x64 : Shape := ⟨5, ![4, 4, 2, 64, 64]⟩
abbrev S4x4x64x64 : Shape := ⟨4, ![4, 4, 64, 64]⟩
abbrev S4x4x1x64x64 : Shape := ⟨5, ![4, 4, 1, 64, 64]⟩
abbrev S4x4x64x128 : Shape := ⟨4, ![4, 4, 64, 128]⟩
abbrev S4x4x128x128 : Shape := ⟨4, ![4, 4, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S4x4096x8x64, .f32⟩
  | .hbm, ⟨8, _⟩ => ⟨S4096x4x8x64, .f32⟩
  | .hbm, ⟨9, _⟩ => ⟨S4x4096x8x64, .f32⟩
  | .hbm, ⟨10, _⟩ => ⟨S4096x4x8x64, .f32⟩
  | .hbm, ⟨11, _⟩ => ⟨S4x4096x8x64, .f32⟩
  | .hbm, ⟨12, _⟩ => ⟨S4096x4x8x64, .f32⟩
  | .hbm, ⟨13, _⟩ => ⟨S4x4096x8x64, .f32⟩
  | .hbm, ⟨14, _⟩ => ⟨S4096x4x8x64, .f32⟩
  | .hbm, ⟨15, _⟩ => ⟨S4x4096x8x64, .f32⟩
  | .hbm, ⟨16, _⟩ => ⟨S4096x4x8x64, .f32⟩
  | .hbm, ⟨17, _⟩ => ⟨S4x4096x8x64, .f32⟩
  | .hbm, ⟨18, _⟩ => ⟨S4096x4x8x64, .f32⟩
  | .hbm, ⟨19, _⟩ => ⟨S_, .f32⟩
  | .hbm, ⟨20, _⟩ => ⟨S4x8x64x64, .f32⟩
  | .hbm, ⟨21, _⟩ => ⟨S_, .f32⟩
  | .hbm, ⟨22, _⟩ => ⟨S4096x4x8x64, .f32⟩
  | .hbm, ⟨23, _⟩ => ⟨S_, .i32⟩
  | .hbm, ⟨24, _⟩ => ⟨S4096x4x8x64, .f32⟩
  | .hbm, ⟨25, _⟩ => ⟨S4096x4x8x64, .f32⟩
  | .hbm, ⟨26, _⟩ => ⟨S4096x4x8x64, .f32⟩
  | .hbm, ⟨27, _⟩ => ⟨S4096x4x8x64, .f32⟩
  | .hbm, ⟨28, _⟩ => ⟨S4096x4x8x64, .f32⟩
  | .hbm, ⟨29, _⟩ => ⟨S4096x4x8x64, .f32⟩
  | .hbm, ⟨30, _⟩ => ⟨S_, .i32⟩
  | .hbm, ⟨31, _⟩ => ⟨S4x8x64x64, .f32⟩
  | .hbm, ⟨32, _⟩ => ⟨S4096x4x8x64, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x4x8x64, .f32⟩
  | .hbm, ⟨39, _⟩ => ⟨S4x8x64, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x8x64, .f32⟩
  | .hbm, ⟨44, _⟩ => ⟨S4x8x64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x4x8x64, .f32⟩
  | .hbm, ⟨49, _⟩ => ⟨S4x8x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x8x64, .f32⟩
  | .hbm, ⟨54, _⟩ => ⟨S4x8x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x4x8x64, .f32⟩
  | .hbm, ⟨59, _⟩ => ⟨S4x8x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x4x8x64, .f32⟩
  | .hbm, ⟨64, _⟩ => ⟨S4x8x64, .f32⟩
  | .hbm, ⟨65, _⟩ => ⟨S4x8x1x64, .f32⟩
  | .hbm, ⟨66, _⟩ => ⟨S4x8x64x64, .f32⟩
  | .hbm, ⟨67, _⟩ => ⟨S4x8x64x64, .f32⟩
  | .hbm, ⟨68, _⟩ => ⟨S4x8x64, .f32⟩
  | .hbm, ⟨69, _⟩ => ⟨S4x8x64x1, .f32⟩
  | .hbm, ⟨70, _⟩ => ⟨S4x8x1x64, .f32⟩
  | .hbm, ⟨71, _⟩ => ⟨S4x8x64x64, .f32⟩
  | .hbm, ⟨72, _⟩ => ⟨S4x8x64x64, .f32⟩
  | .hbm, ⟨73, _⟩ => ⟨S4x8x64x64, .f32⟩
  | .hbm, ⟨74, _⟩ => ⟨S4x8x64x64, .f32⟩
  | .hbm, ⟨75, _⟩ => ⟨S4x8x64x1, .f32⟩
  | .hbm, ⟨76, _⟩ => ⟨S4x8x1x64, .f32⟩
  | .hbm, ⟨77, _⟩ => ⟨S4x8x64x64, .f32⟩
  | .hbm, ⟨78, _⟩ => ⟨S4x8x64x64, .f32⟩
  | .hbm, ⟨79, _⟩ => ⟨S4x8x64x64, .f32⟩
  | .hbm, ⟨80, _⟩ => ⟨S4x8x64x64, .f32⟩
  | .hbm, ⟨81, _⟩ => ⟨S4x8x64, .f32⟩
  | .hbm, ⟨82, _⟩ => ⟨S1x4x8x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S4096x4x8x64, .f32⟩
  | .hbm, ⟨87, _⟩ => ⟨S_, .i32⟩
  | .hbm, ⟨88, _⟩ => ⟨S_, .i32⟩
  | .hbm, ⟨89, _⟩ => ⟨S4x4096x8x64, .f32⟩
  | .hbm, ⟨90, _⟩ => ⟨S16384x512, .f32⟩
  | .hbm, ⟨91, _⟩ => ⟨S4x4x2x64x64, .f32⟩
  | .hbm, ⟨92, _⟩ => ⟨S_, .f32⟩
  | .hbm, ⟨93, _⟩ => ⟨S4x4x64x64, .f32⟩
  | .hbm, ⟨94, _⟩ => ⟨S4x4x1x64x64, .f32⟩
  | .hbm, ⟨95, _⟩ => ⟨S4x4x64x64, .f32⟩
  | .hbm, ⟨96, _⟩ => ⟨S4x4x64x128, .f32⟩
  | .hbm, ⟨97, _⟩ => ⟨S4x4x1x64x64, .f32⟩
  | .hbm, ⟨98, _⟩ => ⟨S4x4x64x64, .f32⟩
  | .hbm, ⟨99, _⟩ => ⟨S4x4x64x128, .f32⟩
  | .hbm, ⟨100, _⟩ => ⟨S4x4x128x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev main_v15_8 : Ref sig .tc := ⟨.hbm, 32, rfl⟩
abbrev main_while0c_c_10 : Ref sig .tc := ⟨.hbm, 33, rfl⟩
abbrev main_while0c_v27 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_v0 : Ref sig .tc := ⟨.hbm, 38, rfl⟩
abbrev main_while0b_v27 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_v0 : Ref sig .tc := ⟨.hbm, 43, rfl⟩
abbrev main_while0b_v28 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_v0 : Ref sig .tc := ⟨.hbm, 48, rfl⟩
abbrev main_while0b_v29 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v30 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_v0 : Ref sig .tc := ⟨.hbm, 58, rfl⟩
abbrev main_while0b_v31 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_c_1 : Ref sig .tc := ⟨.hbm, 62, rfl⟩
abbrev main_while0b_call5_v0 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v50 : Ref sig .tc := ⟨.hbm, 86, rfl⟩
abbrev main_while0b_c_10 : Ref sig .tc := ⟨.hbm, 87, rfl⟩
abbrev main_while0b_v51 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_cst_1 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩

abbrev nD : Nat := 1
abbrev τ : Topo := Topo.v7x

variable {F : FTy → Type} [FloatOps F]

abbrev main_while0_count : Scf.Loop 32 := ⟨0#32, 4096#32, 1#32⟩
-- ==== Proj.lean ====
abbrev S4x4096x1024 : Shape := ⟨3, ![4, 4096, 1024]⟩
abbrev S1024 : Shape := ⟨1, ![1024]⟩
abbrev S1024x7944 : Shape := ⟨2, ![1024, 7944]⟩
abbrev S1024x1792 : Shape := ⟨2, ![1024, 1792]⟩
abbrev S1024x8 : Shape := ⟨2, ![1024, 8]⟩
abbrev S_ : Shape := ⟨0, ![]⟩
abbrev S1024x248 : Shape := ⟨2, ![1024, 248]⟩
abbrev S1024x3072 : Shape := ⟨2, ![1024, 3072]⟩
abbrev S1024x8192 : Shape := ⟨2, ![1024, 8192]⟩
abbrev S16384x1024 : Shape := ⟨2, ![16384, 1024]⟩
abbrev S1x1024 : Shape := ⟨2, ![1, 1024]⟩
abbrev S16384x8192 : Shape := ⟨2, ![16384, 8192]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7944, .f32⟩
  | .hbm, ⟨3, _⟩ => ⟨S1024x1792, .f32⟩
  | .hbm, ⟨4, _⟩ => ⟨S1024x8, .f32⟩
  | .hbm, ⟨5, _⟩ => ⟨S_, .f32⟩
  | .hbm, ⟨6, _⟩ => ⟨S1024x248, .f32⟩
  | .hbm, ⟨7, _⟩ => ⟨S1024x3072, .f32⟩
  | .hbm, ⟨8, _⟩ => ⟨S1024x3072, .f32⟩
  | .hbm, ⟨9, _⟩ => ⟨S1024x8192, .f32⟩
  | .hbm, ⟨10, _⟩ => ⟨S1024x8192, .bf16⟩
  | .hbm, ⟨11, _⟩ => ⟨S16384x1024, .f32⟩
  | .hbm, ⟨12, _⟩ => ⟨S1x1024, .f32⟩
  | .hbm, ⟨13, _⟩ => ⟨S16384x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4x4096x1024 : Shape := ⟨3, ![4, 4096, 1024]⟩
abbrev S1024 : Shape := ⟨1, ![1024]⟩
abbrev S1024x7944 : Shape := ⟨2, ![1024, 7944]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7944 : Shape := ⟨3, ![4, 4096, 7944]⟩
abbrev S4x4096x3072 : Shape := ⟨3, ![4, 4096, 3072]⟩
abbrev S4x4096x8 : Shape := ⟨3, ![4, 4096, 8]⟩
abbrev S4x4096x1792 : Shape := ⟨3, ![4, 4096, 1792]⟩
abbrev S4x4096x248 : Shape := ⟨3, ![4, 4096, 248]⟩
abbrev S4x4096x8192 : Shape := ⟨3, ![4, 4096, 8192]⟩
abbrev S16384x8192 : Shape := ⟨2, ![16384, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7944, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x7944, .f32⟩
  | .hbm, ⟨20, _⟩ => ⟨S4x4096x3072, .f32⟩
  | .hbm, ⟨21, _⟩ => ⟨S4x4096x8, .f32⟩
  | .hbm, ⟨22, _⟩ => ⟨S4x4096x1792, .f32⟩
  | .hbm, ⟨23, _⟩ => ⟨S4x4096x3072, .f32⟩
  | .hbm, ⟨24, _⟩ => ⟨S_, .f32⟩
  | .hbm, ⟨25, _⟩ => ⟨S4x4096x248, .f32⟩
  | .hbm, ⟨26, _⟩ => ⟨S4x4096x8192, .f32⟩
  | .hbm, ⟨27, _⟩ => ⟨S16384x8192, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Ffn.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1x1024 : Shape := ⟨2, ![1, 1024]⟩
abbrev S1x2816 : Shape := ⟨2, ![1, 2816]⟩
abbrev S_ : Shape := ⟨0, ![]⟩
abbrev S8x2816 : Shape := ⟨2, ![8, 2816]⟩
abbrev S32x8x2816 : Shape := ⟨3, ![32, 8, 2816]⟩
abbrev S512x1024 : Shape := ⟨2, ![512, 1024]⟩
abbrev S1024x1408 : Shape := ⟨2, ![1024, 1408]⟩
abbrev S1408x1024 : Shape := ⟨2, ![1408, 1024]⟩
abbrev S3x1408 : Shape := ⟨2, ![3, 1408]⟩
abbrev S1x1408 : Shape := ⟨2, ![1, 1408]⟩
abbrev S8x1408 : Shape := ⟨2, ![8, 1408]⟩
abbrev S1x8x1408 : Shape := ⟨3, ![1, 8, 1408]⟩
abbrev S2x528x1408 : Shape := ⟨3, ![2, 528, 1408]⟩
abbrev S512 : Shape := ⟨1, ![512]⟩
abbrev S512x1 : Shape := ⟨2, ![512, 1]⟩
abbrev S512x1408 : Shape := ⟨2, ![512, 1408]⟩
abbrev S1x512x1408 : Shape := ⟨3, ![1, 512, 1408]⟩

abbrev nBuf : Space → Nat
  | .hbm => 17
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x2816, .f32⟩
  | .hbm, ⟨12, _⟩ => ⟨S_, .f32⟩
  | .hbm, ⟨13, _⟩ => ⟨S8x2816, .f32⟩
  | .hbm, ⟨14, _⟩ => ⟨S1x1024, .f32⟩
  | .hbm, ⟨15, _⟩ => ⟨S16384x1024, .f32⟩
  | .hbm, ⟨16, _⟩ => ⟨S32x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S8x1408, .f32⟩
  | .local _ .vmem, ⟨14, _⟩ => ⟨S8x1408, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x8x1408, .f32⟩
  | .local _ .vmem, ⟨19, _⟩ => ⟨S1x8x1408, .f32⟩
  | .local _ .vmem, ⟨20, _⟩ => ⟨S512x1024, .bf16⟩
  | .local _ .vmem, ⟨21, _⟩ => ⟨S2x528x1408, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v14 : BitVec 32 := Scalar.extui v10
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v81 : Index := Scalar.indexCast arg1
  let c0_41 : Index := 0#32
  let c0_42 : Index := 0#32
  ![v81.toNat, 0, 0]
def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v16 : BitVec 1 := Scalar.xori v10 v_true
  let v17 : BitVec 32 := Scalar.extui v16
  let c0_i32_7 : BitVec 32 := 0#32
  let v18 : BitVec 1 := Scalar.cmpi .ne v17 c0_i32_7
  v18

def k0_off2 (i : grid0.Coords) : Fin 3 → Nat :=
  let arg1 : BitVec 32 := BitVec.ofNat 32 (i 1).val
  let v79 : Index := Scalar.indexCast arg1
  let c512_39 : Index := 512#32
  let c0_40 : Index := 0#32
  ![v79.toNat, 512, 0]
def k0_off3 (i : grid0.Coords) : Fin 3 → Nat :=
  let arg1 : BitVec 32 := BitVec.ofNat 32 (i 1).val
  let v82 : Index := Scalar.indexCast arg1
  let c0_41 : Index := 0#32
  let c0_42 : Index := 0#32
  ![v82.toNat, 0, 0]
def k0_off4 (i : grid0.Coords) : Fin 3 → Nat :=
  let arg1 : BitVec 32 := BitVec.ofNat 32 (i 1).val
  let v23 : Index := Scalar.indexCast arg1
  let c8 : Index := 8#32
  let c0_11 : Index := 0#32
  ![v23.toNat, 8, 0]
def k0_off5 (i : grid0.Coords) : Fin 3 → Nat :=
  let arg1 : BitVec 32 := BitVec.ofNat 32 (i 1).val
  let v27 : Index := Scalar.indexCast arg1
  let c512 : Index := 512#32
  let c0_12 : Index := 0#32
  ![v27.toNat, 512, 0]
def k0_off6 (i : grid0.Coords) : Fin 3 → Nat :=
  let arg1 : BitVec 32 := BitVec.ofNat 32 (i 1).val
  let v41 : Index := Scalar.indexCast arg1
  let c7 : Index := 7#32
  let c0_20 : Index := 0#32
  ![v41.toNat, 7, 0]
def k0_off7 (i : grid0.Coords) : Fin 3 → Nat :=
  let arg1 : BitVec 32 := BitVec.ofNat 32 (i 1).val
  let v48 : Index := Scalar.indexCast arg1
  let c6 : Index := 6#32
  let c0_23 : Index := 0#32
  ![v48.toNat, 6, 0]
def k0_cond4 (i : grid0.Coords) : BitVec 1 :=
  let arg1 : BitVec 32 := BitVec.ofNat 32 (i 1).val
  let c0_i32_33 : BitVec 32 := 0#32
  let v70 : BitVec 1 := Scalar.cmpi .eq arg1 c0_i32_33
  let v71 : BitVec 32 := Scalar.extui v70
  let c0_i32_34 : BitVec 32 := 0#32
  let v72 : BitVec 1 := Scalar.cmpi .ne v71 c0_i32_34
  v72

def k0_cond5 (i : grid0.Coords) : BitVec 1 :=
  let arg1 : BitVec 32 := BitVec.ofNat 32 (i 1).val
  let c0_i32_35 : BitVec 32 := 0#32
  let v73 : BitVec 1 := Scalar.cmpi .sgt arg1 c0_i32_35
  let v74 : BitVec 32 := Scalar.extui v73
  let c0_i32_36 : BitVec 32 := 0#32
  let v75 : BitVec 1 := Scalar.cmpi .ne v74 c0_i32_36
  v75

def k0_cond6 (i : grid0.Coords) : BitVec 1 :=
  let arg1 : BitVec 32 := BitVec.ofNat 32 (i 1).val
  let c1_i32_37 : BitVec 32 := 1#32
  let v76 : BitVec 1 := Scalar.cmpi .eq arg1 c1_i32_37
  let v77 : BitVec 32 := Scalar.extui v76
  let c0_i32_38 : BitVec 32 := 0#32
  let v78 : BitVec 1 := Scalar.cmpi .ne v77 c0_i32_38
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩
abbrev S32x512x2816 : Shape := ⟨3, ![32, 512, 2816]⟩
abbrev S32x8x2816 : Shape := ⟨3, ![32, 8, 2816]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .f32⟩
  | .hbm, ⟨27, _⟩ => ⟨S4x2x2816, .f32⟩
  | .hbm, ⟨28, _⟩ => ⟨S4x4098x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S1x1x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S16384x1024, .f32⟩
  | .hbm, ⟨81, _⟩ => ⟨S32x512x2816, .f32⟩
  | .hbm, ⟨82, _⟩ => ⟨S32x8x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Proof.Chunk.lean ====
module

public import proofs.«01_k».proof.Proof.Gen.ScanIdeal.Skeleton

/-! What one grid point of the kernel computes: the operations on one chunk of 128 tokens, written
once for a pair of heads. The pair is given by the first of its 128 lanes, `o`. -/

@[expose] public section

set_option maxRecDepth 16384

noncomputable section

namespace Cert.ScanIdeal.Chunk

open Idealize.ShloMosaic Idealize.SL.Sem Cert.ScanIdeal Cert.ScanIdeal.Gen

variable {F : FTy → Type} [FloatOps F]

/-- The row of a square's element is not before its column. -/
def incl : IVec S128x128 1 :=
  cmpi .sge (iota .tc S128x128 32 [0] iota_S128x128_d0_w32) (iota .tc S128x128 32 [1] iota_S128x128_d1_w32)
/-- The row of a square's element is after its column. -/
def strict : IVec S128x128 1 :=
  cmpi .sgt (iota .tc S128x128 32 [0] iota_S128x128_d0_w32) (iota .tc S128x128 32 [1] iota_S128x128_d1_w32)
/-- The row and the column of a square's element are of the same head. -/
def same : IVec S128x128 1 :=
  xori (xori (cmpi .slt (iota .tc S128x128 32 [0] iota_S128x128_d0_w32) (broadcast S128x128 64#32))
      (cmpi .slt (iota .tc S128x128 32 [1] iota_S128x128_d1_w32) (broadcast S128x128 64#32)))
    (constantI S128x128 1 1#1)
/-- The lanes of a pair's first head. -/
def isA : IVec S1x128 1 :=
  cmpi .slt (iota .tc S1x128 32 [1] iota_S1x128_d1_w32) (broadcast S1x128 64#32)
/-- The lanes of a pair's second head. -/
def isB : IVec S1x128 1 := xori isA (constantI S1x128 1 1#1)

/-- The square of ones on and below the diagonal, zeros above it. -/
def tri : FVec F S128x128 .bf16 :=
  truncf .bf16 (select incl (broadcast S128x128 (Scalar.ofBits .f32 0x3F800000#32))
    (broadcast S128x128 (Scalar.ofBits .f32 0x00000000#32))) bitsLt_bf16_f32

/-- The square of ones on the diagonal. -/
def eye : FVec F S128x128 .f32 :=
  sitofp .f32 (extui 32 (cmpi .eq (iota .tc S128x128 32 [0] iota_S128x128_d0_w32)
    (iota .tc S128x128 32 [1] iota_S128x128_d1_w32)) natLt_1_32)

/-- A value rounded to the narrow format. -/
def hi (x : FVec F S128x512 .f32) : FVec F S128x512 .bf16 := truncf .bf16 x bitsLt_bf16_f32
/-- What the rounding leaves. -/
def lo (x : FVec F S128x512 .f32) : FVec F S128x512 .f32 := subf x (extf .f32 (hi x) bitsLt_bf16_f32)
/-- The product of the triangle of ones with an array. -/
def triMul (x : FVec F S128x512 .bf16) : FVec F S128x512 .f32 :=
  matmul dot_S128x128_S128x512_S128x512_1_0_0_1_n_n none tri x (constant S128x512 .f32 0x00000000#32)

/-- The running sum of the logarithms of the decays, from the chunk's first token on: the sums of
the three parts that narrow roundings cut them into. -/
def cum (lw : FVec F S128x512 .f32) : FVec F S128x512 .f32 :=
  addf (addf (triMul (hi lw)) (triMul (hi (lo lw)))) (triMul (hi (lo (lo lw))))

/-- Its last row. -/
def last (lw : FVec F S128x512 .f32) : FVec F S1x512 .f32 :=
  extractStridedSlice S1x512 ![127, 0] (cum lw) slices_S128x512_o127_0_S1x512

/-- The reciprocal of the decay since the chunk began. -/
def invP (lw : FVec F S128x512 .f32) : FVec F S128x512 .f32 :=
  exp (subf (broadcast S128x512 (Scalar.ofBits .f32 0x00000000#32)) (cum lw))

/-- The decay from a token to the chunk's end. -/
def toEnd (lw : FVec F S128x512 .f32) : FVec F S128x512 .f32 :=
  exp (subf (broadcastTo S128x512 (last lw) broadcasts_S1x512_S128x512) (cum lw))

/-- The keys to be removed, scaled by the decay before their token. -/
def bT (lw kk : FVec F S128x512 .f32) : FVec F S128x512 .f32 := mulf kk (exp (subf (cum lw) lw))

/-- The negation of the removal's write side. -/
def neg (kka : FVec F S128x512 .f32) : FVec F S128x512 .f32 :=
  subf (broadcast S128x512 (Scalar.ofBits .f32 0x00000000#32)) kka

/-- The removal's write side in the chunk's frame. -/
def aT (lw kka : FVec F S128x512 .f32) : FVec F S128x512 .f32 := mulf (neg kka) (invP lw)
/-- The keys in the chunk's frame. -/
def kT (lw k : FVec F S128x512 .f32) : FVec F S128x512 .f32 := mulf k (invP lw)
/-- The readers in the chunk's frame. -/
def rT (lw r : FVec F S128x512 .f32) : FVec F S128x512 .f32 := mulf r (exp (cum lw))
/-- The removal's write side, decayed to the chunk's end. -/
def aEnd (lw kka : FVec F S128x512 .f32) : FVec F S128x512 .f32 := mulf (neg kka) (toEnd lw)
/-- The keys, decayed to the chunk's end. -/
def kEnd (lw k : FVec F S128x512 .f32) : FVec F S128x512 .f32 := mulf k (toEnd lw)
/-- The decay over the whole chunk. -/
def decayEnd (lw : FVec F S128x512 .f32) : FVec F S1x512 .f32 := exp (last lw)

/-- The 128 lanes of the pair that begins at lane `o`. -/
def sl (o : ℕ) (h : S128x512.Slices ![0, o] S128x128) (x : FVec F S128x512 .f32) : FVec F S128x128 .f32 :=
  extractStridedSlice S128x128 ![0, o] x h

/-- One array over the other. -/
def rows (x y : FVec F S128x128 .f32) : FVec F S256x128 .f32 :=
  concatenate S256x128 0 [⟨S128x128, x⟩, ⟨S128x128, y⟩] concatenates_S128x128_S128x128_S256x128_d0

/-- The upper half of the rows. -/
def top (x : FVec F S256x128 .f32) : FVec F S128x128 .f32 :=
  extractStridedSlice S128x128 ![0, 0] x slices_S256x128_o0_0_S128x128
/-- The lower half of the rows. -/
def bot (x : FVec F S256x128 .f32) : FVec F S128x128 .f32 :=
  extractStridedSlice S128x128 ![128, 0] x slices_S256x128_o128_0_S128x128

/-- A row of flags as the mask of a square. -/
def mask (m : IVec S1x128 1) : IVec S128x128 1 :=
  broadcastTo S128x128 (shapeCast S1x128 m shapeCasts_S1x128_S1x128) broadcasts_S1x128_S128x128

/-- The square of zeros. -/
def zero : FVec F S128x128 .f32 := broadcast S128x128 (Scalar.ofBits .f32 0x00000000#32)

/-- The four blocks of products of one head (the lanes that `m` flags). -/
def g4 (m : IVec S1x128 1) (b r a k : FVec F S128x128 .f32) : FVec F S256x256 .f32 :=
  matmul dot_S256x128_S256x128_S256x256_1_1_0_0_n_n none
    (truncf .bf16 (rows (select (mask m) b zero) (select (mask m) r zero)) bitsLt_bf16_f32)
    (truncf .bf16 (rows a k) bitsLt_bf16_f32) (constant S256x256 .f32 0x00000000#32)

/-- The strictly earlier removals that a token's removal sees. -/
def nS (g : FVec F S256x256 .f32) : FVec F S128x128 .f32 :=
  select strict (extractStridedSlice S128x128 ![0, 0] g slices_S256x256_o0_0_S128x128) zero
/-- The strictly earlier keys that a token's removal sees. -/
def mkS (g : FVec F S256x256 .f32) : FVec F S128x128 .f32 :=
  select strict (extractStridedSlice S128x128 ![0, 128] g slices_S256x256_o0_128_S128x128) zero
/-- The removals and the keys that a token's reader sees, side by side. -/
def rak (g : FVec F S256x256 .f32) : FVec F S128x256 .f32 :=
  concatenate S128x256 1
    [⟨S128x128, select incl (extractStridedSlice S128x128 ![128, 0] g slices_S256x256_o128_0_S128x128) zero⟩,
     ⟨S128x128, select incl (extractStridedSlice S128x128 ![128, 128] g slices_S256x256_o128_128_S128x128) zero⟩]
    concatenates_S128x128_S128x128_S128x256_d1

/-- A product of two squares. -/
def mm (x y : FVec F S128x128 .f32) : FVec F S128x128 .f32 :=
  matmul dot_S128x128_S128x128_S128x128_1_0_0_1_n_n none (truncf .bf16 x bitsLt_bf16_f32)
    (truncf .bf16 y bitsLt_bf16_f32) (constant S128x128 .f32 0x00000000#32)

/-- Two squares, one over the other, times a third. -/
def mm2 (x y z : FVec F S128x128 .f32) : FVec F S256x128 .f32 :=
  matmul dot_S256x128_S128x128_S256x128_1_0_0_1_n_n none (truncf .bf16 (rows x y) bitsLt_bf16_f32)
    (truncf .bf16 z bitsLt_bf16_f32) (constant S256x128 .f32 0x00000000#32)

/-- One step of the doubling: the sum of the first powers, and the power it goes up to. -/
def dbl (q : FVec F S128x128 .f32 × FVec F S128x128 .f32) : FVec F S128x128 .f32 × FVec F S128x128 .f32 :=
  (addf q.1 (top (mm2 q.1 q.2 q.2)), bot (mm2 q.1 q.2 q.2))

/-- The doubling's start. -/
def dbl0 (n : FVec F S128x128 .f32) : FVec F S128x128 .f32 × FVec F S128x128 .f32 :=
  (addf eye n, mm n n)

/-- The doubling's last step, which needs no further power. -/
def dblLast (q : FVec F S128x128 .f32 × FVec F S128x128 .f32) : FVec F S128x128 .f32 :=
  addf q.1 (mm q.1 q.2)

/-- The inverse of `1 - n`, as the sum of `n`'s powers. -/
def inv (n : FVec F S128x128 .f32) : FVec F S128x128 .f32 :=
  dblLast (dbl (dbl (dbl (dbl (dbl (dbl0 n))))))

/-- What the removals and the readers see of the state at the chunk's beginning. -/
def fromState (b r s0 : FVec F S128x128 .f32) : FVec F S256x128 .f32 :=
  matmul dot_S256x128_S128x128_S256x128_1_1_0_0_n_n none (truncf .bf16 (rows b r) bitsLt_bf16_f32)
    (truncf .bf16 s0 bitsLt_bf16_f32) (constant S256x128 .f32 0x00000000#32)

/-- Each lane's product with the array of its own head. -/
def byHead (x y z : FVec F S128x128 .f32) : FVec F S128x128 .f32 :=
  select (mask isA) (top (mm2 x y z)) (bot (mm2 x y z))

/-- What the removals see but for one another. -/
def rhs (fs : FVec F S256x128 .f32) (mA mB v : FVec F S128x128 .f32) : FVec F S128x128 .f32 :=
  addf (top fs) (byHead mA mB v)

/-- What the removals see. -/
def us (fs : FVec F S256x128 .f32) (nA nB mA mB v : FVec F S128x128 .f32) : FVec F S128x128 .f32 :=
  byHead (inv nA) (inv nB) (rhs fs mA mB v)

/-- A head's readers applied to what the chunk wrote. -/
def mmR (x : FVec F S128x256 .f32) (u v : FVec F S128x128 .f32) : FVec F S128x128 .f32 :=
  matmul dot_S128x256_S256x128_S128x128_1_0_0_1_n_n none (truncf .bf16 x bitsLt_bf16_f32)
    (truncf .bf16 (rows u v) bitsLt_bf16_f32) (constant S128x128 .f32 0x00000000#32)

/-- The readers' results. -/
def yOut (fs : FVec F S256x128 .f32) (u v : FVec F S128x128 .f32) (rA rB : FVec F S128x256 .f32) :
    FVec F S128x128 .f32 :=
  addf (bot fs) (select (mask isA) (mmR rA u v) (mmR rB u v))

/-- The state at the chunk's end. -/
def sOut (s0 u v aE kE : FVec F S128x128 .f32) (dE : FVec F S1x128 .f32) : FVec F S128x128 .f32 :=
  addf (mulf s0 (broadcastTo S128x128 dE broadcasts_S1x128_S128x128))
    (select same
      (matmul dot_S256x128_S256x128_S128x128_0_0_1_1_n_n none (truncf .bf16 (rows u v) bitsLt_bf16_f32)
        (truncf .bf16 (rows aE kE) bitsLt_bf16_f32) (constant S128x128 .f32 0x00000000#32)) zero)

section Pair

variable (o : ℕ) (h : S128x512.Slices ![0, o] S128x128) (h' : S1x512.Slices ![0, o] S1x128)
  (r lw k v kk kka : FVec F S128x512 .f32) (s0 : FVec F S128x128 .f32)

/-- The products of the pair's first head. -/
def gA : FVec F S256x256 .f32 :=
  g4 isA (sl o h (bT lw kk)) (sl o h (rT lw r)) (sl o h (aT lw kka)) (sl o h (kT lw k))
/-- The products of the pair's second head. -/
def gB : FVec F S256x256 .f32 :=
  g4 isB (sl o h (bT lw kk)) (sl o h (rT lw r)) (sl o h (aT lw kka)) (sl o h (kT lw k))
/-- What the pair's removals and readers see of the state. -/
def fsP : FVec F S256x128 .f32 := fromState (sl o h (bT lw kk)) (sl o h (rT lw r)) s0
/-- What the pair's removals see. -/
def uP : FVec F S128x128 .f32 :=
  us (fsP o h r lw kk s0) (nS (gA o h r lw k kk kka)) (nS (gB o h r lw k kk kka))
    (mkS (gA o h r lw k kk kka)) (mkS (gB o h r lw k kk kka)) (sl o h v)
/-- The pair's results. -/
def yP : FVec F S128x128 .f32 :=
  yOut (fsP o h r lw kk s0) (uP o h r lw k v kk kka s0) (sl o h v)
    (rak (gA o h r lw k kk kka)) (rak (gB o h r lw k kk kka))
/-- The pair's state at the chunk's end. -/
def sP : FVec F S128x128 .f32 :=
  sOut s0 (uP o h r lw k v kk kka s0) (sl o h v) (sl o h (aEnd lw kka)) (sl o h (kEnd lw k))
    (extractStridedSlice S1x128 ![0, o] (decayEnd lw) h')

end Pair

end Cert.ScanIdeal.Chunk
-- ==== Proof.ChunkMath.lean ====
module

public import Idealize.ShloMosaic.PureOps.Ideal
public import Mathlib.Data.Matrix.Mul
public import Mathlib.Analysis.SpecialFunctions.Exp
public import Mathlib.Algebra.BigOperators.Intervals
public import Mathlib.Tactic.Ring
public import Mathlib.Tactic.Linarith

/-! The recurrence over real numbers, and that its chunked form computes it. One value lane is
looked at: its row of the state is a function of the key lanes `K`. -/

@[expose] public section

noncomputable section

namespace Cert.ChunkMath

open Finset

/-! ## The sum of a strictly lower triangular matrix's powers -/

section Inverse

variable {n : ℕ} (N : Matrix (Fin n) (Fin n) ℝ)

/-- One step of the doubling. -/
def dbl (q : Matrix (Fin n) (Fin n) ℝ × Matrix (Fin n) (Fin n) ℝ) :
    Matrix (Fin n) (Fin n) ℝ × Matrix (Fin n) (Fin n) ℝ := (q.1 + q.1 * q.2, q.2 * q.2)

theorem dbl_powers (m : ℕ) :
    dbl (∑ j ∈ range m, N ^ j, N ^ m) = (∑ j ∈ range (m + m), N ^ j, N ^ (m + m)) := by
  simp only [dbl, Prod.mk.injEq]
  refine ⟨?_, (pow_add N m m).symm⟩
  rw [sum_range_add, sum_mul]
  exact congrArg _ (sum_congr rfl fun j _ => by rw [← pow_add, add_comm])

/-- Six doublings, the last without its power. -/
def inv : Matrix (Fin n) (Fin n) ℝ := (dbl (dbl (dbl (dbl (dbl (dbl (1 + N, N * N))))))).1

theorem inv_eq : inv N = ∑ j ∈ range 128, N ^ j := by
  have h : (1 + N, N * N) = (∑ j ∈ range 2, N ^ j, N ^ 2) := by
    simp [sum_range_succ, sq]
  simp only [inv, h, dbl_powers]

theorem pow_lower (hN : ∀ a b, ¬ b < a → N a b = 0) (j : ℕ) (a b : Fin n) (h : ¬ b.val + j ≤ a.val) :
    (N ^ j) a b = 0 := by
  induction j generalizing a with
  | zero =>
    rw [pow_zero, Matrix.one_apply_ne]
    rintro rfl
    exact h (le_refl _)
  | succ j ih =>
    rw [pow_succ', Matrix.mul_apply]
    refine sum_eq_zero fun c _ => ?_
    by_cases hc : c < a
    · rw [ih c (by have : c.val < a.val := hc; omega), mul_zero]
    · rw [hN a c hc, zero_mul]

theorem inv_fix (hn : n ≤ 128) (hN : ∀ a b, ¬ b < a → N a b = 0) : inv N = 1 + N * inv N := by
  have h0 : N ^ 128 = 0 := by
    ext a b
    exact pow_lower N hN 128 a b (by omega)
  have h1 : ∑ j ∈ range (128 + 1), N ^ j = ∑ j ∈ range 128, N ^ j := by
    rw [sum_range_succ, h0, add_zero]
  rw [inv_eq]
  conv_lhs => rw [← h1, sum_range_succ', pow_zero, add_comm]
  rw [mul_sum]
  exact congrArg _ (sum_congr rfl fun j _ => pow_succ' N j)

end Inverse

/-! ## The recurrence -/

section Run

variable {K : Type} [Fintype K] (lw kk kka k r : ℕ → K → ℝ) (v : ℕ → ℝ) (s : K → ℝ)

/-- A value lane's row of the state before token `n`. -/
def run : ℕ → K → ℝ
  | 0 => s
  | n + 1 => fun i => run n i * Real.exp (lw n i) - (∑ j, run n j * kk n j) * kka n i + v n * k n i

/-- The running sum of the decays' logarithms before token `n`. -/
def cum (n : ℕ) (i : K) : ℝ := ∑ j ∈ range n, lw j i

/-- What the tokens before `t` wrote, in the frame of the chunk's beginning. -/
def wrote (u : ℕ → ℝ) (t : ℕ) (i : K) : ℝ :=
  ∑ q ∈ range t, (u q * (-kka q i * Real.exp (-cum lw (q + 1) i)) + v q * (k q i * Real.exp (-cum lw (q + 1) i)))

variable {lw kk kka k r v s}

theorem run_eq {L : ℕ} {u : ℕ → ℝ}
    (hu : ∀ t < L, u t = ∑ i, kk t i * Real.exp (cum lw (t + 1) i - lw t i) * (s i + wrote lw kka k v u t i)) :
    ∀ t ≤ L, ∀ i, run lw kk kka k v s t i = Real.exp (cum lw t i) * (s i + wrote lw kka k v u t i) := by
  intro t
  induction t with
  | zero => intro _ i; simp [run, cum, wrote]
  | succ t ih =>
    intro ht i
    have ih := ih (by omega)
    have hc : ∀ i, cum lw (t + 1) i = cum lw t i + lw t i := fun i => sum_range_succ _ _
    have hsum : ∑ j, run lw kk kka k v s t j * kk t j = u t := by
      rw [hu t (by omega)]
      refine sum_congr rfl fun j _ => ?_
      rw [ih j, hc j]
      ring_nf
    have he : Real.exp (cum lw (t + 1) i) * Real.exp (-cum lw (t + 1) i) = 1 := by
      rw [← Real.exp_add, add_neg_cancel, Real.exp_zero]
    have hw : wrote lw kka k v u (t + 1) i = wrote lw kka k v u t i
        + (u t * (-kka t i * Real.exp (-cum lw (t + 1) i)) + v t * (k t i * Real.exp (-cum lw (t + 1) i))) :=
      sum_range_succ _ _
    have hm : Real.exp (cum lw (t + 1) i) = Real.exp (cum lw t i) * Real.exp (lw t i) := by
      rw [hc, Real.exp_add]
    show run lw kk kka k v s t i * Real.exp (lw t i) - (∑ j, run lw kk kka k v s t j * kk t j) * kka t i
      + v t * k t i = _
    rw [hsum, ih i, hw]
    have : Real.exp (cum lw (t + 1) i) * (s i + (wrote lw kka k v u t i
        + (u t * (-kka t i * Real.exp (-cum lw (t + 1) i)) + v t * (k t i * Real.exp (-cum lw (t + 1) i)))))
      = Real.exp (cum lw (t + 1) i) * (s i + wrote lw kka k v u t i)
        + (Real.exp (cum lw (t + 1) i) * Real.exp (-cum lw (t + 1) i)) * (v t * k t i - u t * kka t i) := by ring
    rw [this, he, hm]
    ring

/-- The state at the chunk's end. -/
theorem run_end {L : ℕ} {u : ℕ → ℝ}
    (hu : ∀ t < L, u t = ∑ i, kk t i * Real.exp (cum lw (t + 1) i - lw t i) * (s i + wrote lw kka k v u t i)) (i : K) :
    run lw kk kka k v s L i = s i * Real.exp (cum lw L i)
      + ∑ q ∈ range L, (u q * (-kka q i * Real.exp (cum lw L i - cum lw (q + 1) i))
        + v q * (k q i * Real.exp (cum lw L i - cum lw (q + 1) i))) := by
  rw [run_eq hu L le_rfl, mul_add, mul_comm, wrote, mul_sum]
  refine congrArg _ (sum_congr rfl fun q _ => ?_)
  rw [sub_eq_add_neg, Real.exp_add]
  ring

end Run

end Cert.ChunkMath
-- ==== Proof.ChunkReal.lean ====
module

public import proofs.«01_k».proof.Proof.Chunk
public import proofs.«01_k».proof.Proof.ChunkMath
public import Idealize.ShloMosaic.Lib.Pointwise

/-! The chunk's operations on arrays of real numbers: each of them again gives an array of real
numbers, the one its formula says. -/

@[expose] public section

set_option maxRecDepth 16384

noncomputable section

namespace Cert.ScanIdeal.ChunkReal

open Idealize.ShloMosaic Idealize.SL.Sem Cert.ScanIdeal Cert.ScanIdeal.Gen Cert.ScanIdeal.Chunk

/-- An array of real numbers. -/
def up {a b : ℕ} {φ : FTy} (f : Fin a → Fin b → ℝ) : FVec Ideal ⟨2, ![a, b]⟩ φ :=
  fun i => ((f (i 0) (i 1) : ℝ) : EReal)

theorem up_ix {a b : ℕ} {φ : FTy} (f : Fin a → Fin b → ℝ) (x : Fin a) (y : Fin b) :
    up (φ := φ) f (ix2 x y) = ((f x y : ℝ) : EReal) := rfl

theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

theorem sum_mul {ι : Type} [Fintype ι] (f g : ι → ℝ) :
    ∑ i, ((f i : ℝ) : EReal) * ((g i : ℝ) : EReal) = ((∑ i, f i * g i : ℝ) : EReal) := by
  simp only [← EReal.coe_mul]
  exact coe_sum _

section Elementwise
variable {a b : ℕ} {φ : FTy} (f g : Fin a → Fin b → ℝ)

theorem addf_up : addf (up (φ := φ) f) (up g) = up (fun i j => f i j + g i j) := rfl
theorem mulf_up : mulf (up (φ := φ) f) (up g) = up (fun i j => f i j * g i j) := rfl
theorem subf_up : subf (up (φ := φ) f) (up g) = up (fun i j => f i j - g i j) := rfl
theorem exp_up : exp (up (φ := φ) f) = up (fun i j => Real.exp (f i j)) := rfl
end Elementwise

theorem truncf_up {a b : ℕ} (f : Fin a → Fin b → ℝ) (h : FTy.bf16.bits < FTy.f32.bits) :
    truncf .bf16 (up (φ := .f32) f) h = up f := rfl
theorem extf_up {a b : ℕ} (f : Fin a → Fin b → ℝ) (h : FTy.bf16.bits < FTy.f32.bits) :
    extf .f32 (up (φ := .bf16) f) h = up f := rfl

theorem zero_up {a b : ℕ} :
    (broadcast ⟨2, ![a, b]⟩ (Scalar.ofBits (F := Ideal) .f32 0x00000000#32) : FVec Ideal ⟨2, ![a, b]⟩ .f32)
      = up (fun _ _ => 0) := by
  funext i
  exact Ideal.ofBits_zero_f32
theorem one_up {a b : ℕ} :
    (broadcast ⟨2, ![a, b]⟩ (Scalar.ofBits (F := Ideal) .f32 0x3F800000#32) : FVec Ideal ⟨2, ![a, b]⟩ .f32)
      = up (fun _ _ => 1) := by
  funext i
  exact Ideal.ofBits_one_f32

/-! ## Products -/

theorem mul_128_512 (f : Fin 128 → Fin 128 → ℝ) (g : Fin 128 → Fin 512 → ℝ) :
    matmul dot_S128x128_S128x512_S128x512_1_0_0_1_n_n none (up (φ := .bf16) f) (up (φ := .bf16) g)
      (constant S128x512 .f32 0x00000000#32) = up (fun i j => ∑ l, f i l * g l j) := by
  funext i
  idx_vars i
  pointwise
  simp only [up_ix, sum_mul, zero_add]

theorem mul_nt_256 (f g : Fin 256 → Fin 128 → ℝ) :
    matmul dot_S256x128_S256x128_S256x256_1_1_0_0_n_n none (up (φ := .bf16) f) (up (φ := .bf16) g)
      (constant S256x256 .f32 0x00000000#32) = up (fun i j => ∑ l, f i l * g j l) := by
  funext i
  idx_vars i
  pointwise
  simp only [up_ix, sum_mul, zero_add]

theorem mul_nt_128 (f : Fin 256 → Fin 128 → ℝ) (g : Fin 128 → Fin 128 → ℝ) :
    matmul dot_S256x128_S128x128_S256x128_1_1_0_0_n_n none (up (φ := .bf16) f) (up (φ := .bf16) g)
      (constant S256x128 .f32 0x00000000#32) = up (fun i j => ∑ l, f i l * g j l) := by
  funext i
  idx_vars i
  pointwise
  simp only [up_ix, sum_mul, zero_add]

theorem mul_128 (f g : Fin 128 → Fin 128 → ℝ) :
    matmul dot_S128x128_S128x128_S128x128_1_0_0_1_n_n none (up (φ := .bf16) f) (up (φ := .bf16) g)
      (constant S128x128 .f32 0x00000000#32) = up (fun i j => ∑ l, f i l * g l j) := by
  funext i
  idx_vars i
  pointwise
  simp only [up_ix, sum_mul, zero_add]

theorem mul_256_128 (f : Fin 256 → Fin 128 → ℝ) (g : Fin 128 → Fin 128 → ℝ) :
    matmul dot_S256x128_S128x128_S256x128_1_0_0_1_n_n none (up (φ := .bf16) f) (up (φ := .bf16) g)
      (constant S256x128 .f32 0x00000000#32) = up (fun i j => ∑ l, f i l * g l j) := by
  funext i
  idx_vars i
  pointwise
  simp only [up_ix, sum_mul, zero_add]

theorem mul_128_256 (f : Fin 128 → Fin 256 → ℝ) (g : Fin 256 → Fin 128 → ℝ) :
    matmul dot_S128x256_S256x128_S128x128_1_0_0_1_n_n none (up (φ := .bf16) f) (up (φ := .bf16) g)
      (constant S128x128 .f32 0x00000000#32) = up (fun i j => ∑ l, f i l * g l j) := by
  funext i
  idx_vars i
  pointwise
  simp only [up_ix, sum_mul, zero_add]

theorem mul_tn (f g : Fin 256 → Fin 128 → ℝ) :
    matmul dot_S256x128_S256x128_S128x128_0_0_1_1_n_n none (up (φ := .bf16) f) (up (φ := .bf16) g)
      (constant S128x128 .f32 0x00000000#32) = up (fun i j => ∑ l, f l i * g l j) := by
  funext i
  idx_vars i
  pointwise
  simp only [up_ix, sum_mul, zero_add]

/-! ## Rows and lanes -/

/-- One array over the other. -/
def over (f g : Fin 128 → Fin 128 → ℝ) (i : Fin 256) (j : Fin 128) : ℝ :=
  if h : i.val < 128 then f ⟨i.val, h⟩ j else g ⟨i.val - 128, by omega⟩ j

theorem rows_up (f g : Fin 128 → Fin 128 → ℝ) : rows (up f) (up g) = up (over f g) := by
  funext i
  idx_vars i
  pointwise [rows, over]
  split
  · rename_i h; simp only [up_ix, h, over, dif_pos]
  · rename_i h; simp only [up_ix, h, over, dif_neg, not_false_eq_true]

theorem top_up (f : Fin 256 → Fin 128 → ℝ) : top (up f) = up (fun i j => f ⟨i.val, by omega⟩ j) := by
  funext i
  idx_vars i
  pointwise [top]
  rfl
theorem bot_up (f : Fin 256 → Fin 128 → ℝ) : bot (up f) = up (fun i j => f ⟨128 + i.val, by omega⟩ j) := by
  funext i
  idx_vars i
  pointwise [bot]
  rfl

theorem sl_up (o : ℕ) (h : S128x512.Slices ![0, o] S128x128) (ho : o + 128 ≤ 512) (f : Fin 128 → Fin 512 → ℝ) :
    sl o h (up f) = up (fun i j => f i ⟨o + j.val, by omega⟩) := by
  funext i
  idx_vars i
  pointwise [sl]
  rfl

theorem sl1_up (o : ℕ) (h : S1x512.Slices ![0, o] S1x128) (ho : o + 128 ≤ 512) (f : Fin 1 → Fin 512 → ℝ) :
    extractStridedSlice S1x128 ![0, o] (up (φ := .f32) f) h = up (fun i j => f i ⟨o + j.val, by omega⟩) := by
  funext i
  obtain ⟨x, y, rfl⟩ : ∃ x y, i = ix2 x y := ⟨_, _, eq_ix2 i⟩
  obtain rfl : x = 0 := Subsingleton.elim _ _
  pointwise
  rfl

theorem quad_up (o o' : ℕ) (h : S256x256.Slices ![o, o'] S128x128) (ho : o + 128 ≤ 256) (ho' : o' + 128 ≤ 256)
    (f : Fin 256 → Fin 256 → ℝ) :
    extractStridedSlice S128x128 ![o, o'] (up (φ := .f32) f) h
      = up (fun i j => f ⟨o + i.val, by omega⟩ ⟨o' + j.val, by omega⟩) := by
  funext i
  idx_vars i
  pointwise
  rfl

theorem over_lo' (f g : Fin 128 → Fin 128 → ℝ) (i j : Fin 128) (h : i.val < 256) : over f g ⟨i.val, h⟩ j = f i j := by
  simp only [over, i.isLt, dif_pos]
theorem over_lo (f g : Fin 128 → Fin 128 → ℝ) (i j : Fin 128) (h : 0 + i.val < 256) : over f g ⟨0 + i.val, h⟩ j = f i j := by
  have e : (⟨0 + i.val, h⟩ : Fin 256) = ⟨i.val, by omega⟩ := Fin.ext (Nat.zero_add _)
  rw [e, over_lo']
theorem over_hi (f g : Fin 128 → Fin 128 → ℝ) (i j : Fin 128) (h : 128 + i.val < 256) : over f g ⟨128 + i.val, h⟩ j = g i j := by
  have : ¬ (128 + i.val) < 128 := by omega
  simp only [over, this, dif_neg, not_false_eq_true, Nat.add_sub_cancel_left]

/-- One array beside the other. -/
def beside (f g : Fin 128 → Fin 128 → ℝ) (i : Fin 128) (j : Fin 256) : ℝ :=
  if h : j.val < 128 then f i ⟨j.val, h⟩ else g i ⟨j.val - 128, by omega⟩

theorem beside_up (f g : Fin 128 → Fin 128 → ℝ) :
    concatenate S128x256 1 [⟨S128x128, up (φ := .f32) f⟩, ⟨S128x128, up g⟩]
      concatenates_S128x128_S128x128_S128x256_d1 = up (φ := .f32) (beside f g) := by
  funext i
  idx_vars i
  pointwise
  split
  · rename_i h; simp only [up_ix, h, beside, dif_pos]
  · rename_i h; simp only [up_ix, h, beside, dif_neg, not_false_eq_true]

/-- A sum over two halves. -/
theorem sum_halves (f : Fin 256 → ℝ) :
    ∑ j, f j = ∑ q : Fin 128, f ⟨q.val, by omega⟩ + ∑ q : Fin 128, f ⟨128 + q.val, by omega⟩ :=
  Fin.sum_univ_add (a := 128) (b := 128) f

theorem sum_beside_over (f g x y : Fin 128 → Fin 128 → ℝ) (t d : Fin 128) :
    ∑ j, beside f g t j * over x y j d = ∑ q, f t q * x q d + ∑ q, g t q * y q d := by
  rw [sum_halves]
  simp only [over_lo', over_hi]
  refine congrArg₂ (· + ·) (Finset.sum_congr rfl fun q _ => congrArg (· * _) ?_)
    (Finset.sum_congr rfl fun q _ => congrArg (· * _) ?_)
  · simp only [beside, q.isLt, dif_pos]
  · have : ¬ (128 + q.val) < 128 := by omega
    simp only [beside, this, dif_neg, not_false_eq_true, Nat.add_sub_cancel_left]

theorem sum_over_over (f g x y : Fin 128 → Fin 128 → ℝ) (t d : Fin 128) :
    ∑ j, over f g j t * over x y j d = ∑ q, f q t * x q d + ∑ q, g q t * y q d := by
  rw [sum_halves]
  simp only [over_lo', over_hi]

/-! ## Choices -/

theorem select_up {a b : ℕ} (m : IVec ⟨2, ![a, b]⟩ 1) (p : Fin a → Fin b → Bool)
    (hm : ∀ i j, m (ix2 i j) = if p i j then 1#1 else 0#1) (f g : Fin a → Fin b → ℝ) :
    select m (up (φ := .f32) f) (up g) = up (fun i j => if p i j then f i j else g i j) := by
  funext i
  obtain ⟨x, y, rfl⟩ : ∃ x y, i = ix2 x y := ⟨_, _, eq_ix2 i⟩
  pointwise
  rw [hm]
  simp only [up_ix]
  by_cases h : p x y <;> simp [h, Scalar.select]

theorem toInt_small (n : ℕ) (h : n < 128) : (BitVec.ofNat 32 n).toInt = n := by
  have h2 : (BitVec.ofNat 32 n).toNat = n := by simp; omega
  rw [BitVec.toInt_eq_toNat_of_lt (by rw [h2]; omega), h2]

theorem ofBool_ite (b : Bool) : BitVec.ofBool b = if b then 1#1 else 0#1 := by cases b <;> rfl

theorem slt_small (x y : ℕ) (hx : x < 128) (hy : y < 128) :
    (BitVec.ofNat 32 x).slt (BitVec.ofNat 32 y) = decide (x < y) := by
  rw [BitVec.slt, toInt_small x hx, toInt_small y hy]
  exact decide_eq_decide.mpr (by omega)
theorem sle_small (x y : ℕ) (hx : x < 128) (hy : y < 128) :
    (BitVec.ofNat 32 x).sle (BitVec.ofNat 32 y) = decide (x ≤ y) := by
  rw [BitVec.sle, toInt_small x hx, toInt_small y hy]
  exact decide_eq_decide.mpr (by omega)

/-- A pair's first head's lanes. -/
def hA (l : Fin 128) : Bool := decide (l.val < 64)
/-- Two lanes of one head. -/
def hd (d l : Fin 128) : Bool := hA d == hA l

theorem incl_at (i j : Fin 128) : incl (ix2 i j) = if decide (j.val ≤ i.val) then 1#1 else 0#1 := by
  pointwise [incl]
  rw [IntOp.cmpi, ofBool_ite, sle_small _ _ j.isLt i.isLt]
theorem strict_at (i j : Fin 128) : strict (ix2 i j) = if decide (j.val < i.val) then 1#1 else 0#1 := by
  pointwise [strict]
  rw [IntOp.cmpi, ofBool_ite, slt_small _ _ j.isLt i.isLt]

theorem slt_head (l : Fin 128) : IntOp.cmpi CmpIPredicate.slt (BitVec.ofNat 32 l.val) 64#32 = if hA l then 1#1 else 0#1 := by
  rw [IntOp.cmpi, ofBool_ite]
  simp only [slt_small _ 64 l.isLt (by omega)]
  rfl
theorem same_at (i j : Fin 128) : same (ix2 i j) = if hd i j then 1#1 else 0#1 := by
  pointwise [same]
  rw [slt_head, slt_head, hd]
  cases hA i <;> cases hA j <;> rfl
theorem isA_at (i : Fin 1) (j : Fin 128) : isA (ix2 i j) = if hA j then 1#1 else 0#1 := by
  pointwise [isA]
  exact slt_head j
theorem isB_at (i : Fin 1) (j : Fin 128) : isB (ix2 i j) = if !hA j then 1#1 else 0#1 := by
  pointwise [isB]
  rw [isA_at]
  cases hA j <;> rfl
theorem mask_at (m : IVec S1x128 1) (i j : Fin 128) : mask m (ix2 i j) = m (ix2 0 j) := by
  pointwise [mask]

theorem eye_up : eye (F := Ideal) = up (fun i j => if i = j then 1 else 0) := by
  funext i
  idx_vars i
  pointwise [eye]
  rw [up_ix, IntOp.cmpi, ofBool_ite]
  show ((BitVec.toInt _ : ℝ) : EReal) = _
  by_cases h : i0 = i1
  · subst h
    simp
  · have hne : (BitVec.ofNat 32 i0.val == BitVec.ofNat 32 i1.val) = false := by
      rw [beq_eq_false_iff_ne]
      intro he
      have := congrArg BitVec.toInt he
      rw [toInt_small _ i0.isLt, toInt_small _ i1.isLt] at this
      exact h (Fin.ext (by omega))
    simp [hne, h]

theorem tri_up : tri (F := Ideal) = up (fun t j => if decide (j.val ≤ t.val) then 1 else 0) := by
  unfold tri
  rw [zero_up, one_up, select_up _ _ incl_at]
  rfl

theorem zero_eq : zero (F := Ideal) = up (fun _ _ => 0) := zero_up

/-! ## The parts of a chunk -/

/-- The running sum of an array's rows. -/
def rcum (lw : Fin 128 → Fin 512 → ℝ) (t : Fin 128) (c : Fin 512) : ℝ :=
  ∑ j : Fin 128, (if decide (j.val ≤ t.val) then 1 else 0) * lw j c

section Whole
variable (lw x : Fin 128 → Fin 512 → ℝ)

theorem triMul_up : triMul (up x) = up (rcum x) := by
  unfold triMul
  rw [tri_up, mul_128_512]
  rfl

theorem cum_up : cum (up lw) = up (rcum lw) := by
  have h0 : lo (up lw) = up (fun _ _ => 0) := by
    funext i
    idx_vars i
    show ((lw i0 i1 : ℝ) : EReal) - ((lw i0 i1 : ℝ) : EReal) = ((0 : ℝ) : EReal)
    rw [← EReal.coe_sub, sub_self]
  have h1 : lo (up (fun _ _ => (0 : ℝ))) = up (fun _ _ => 0) := by
    funext i
    idx_vars i
    show ((0 : ℝ) : EReal) - ((0 : ℝ) : EReal) = ((0 : ℝ) : EReal)
    rw [← EReal.coe_sub, sub_self]
  have hh : ∀ f : Fin 128 → Fin 512 → ℝ, hi (up f) = up f := fun f => rfl
  have hz : rcum (fun _ _ => (0 : ℝ)) = fun _ _ => 0 := by
    funext t c
    simp only [rcum, mul_zero, Finset.sum_const_zero]
  unfold cum
  rw [h0, h1, hh, hh, triMul_up, triMul_up, addf_up, addf_up, hz]
  simp only [add_zero]

theorem last_up : last (up lw) = up (fun _ c => rcum lw 127 c) := by
  unfold last
  rw [cum_up]
  funext i
  obtain ⟨x, y, rfl⟩ : ∃ x y, i = ix2 x y := ⟨_, _, eq_ix2 i⟩
  obtain rfl : x = 0 := Subsingleton.elim _ _
  pointwise
  rfl

theorem invP_up : invP (up lw) = up (fun t c => Real.exp (-rcum lw t c)) := by
  unfold invP
  rw [cum_up, zero_up, subf_up, exp_up]
  simp only [zero_sub]

theorem toEnd_up : toEnd (up lw) = up (fun t c => Real.exp (rcum lw 127 c - rcum lw t c)) := by
  unfold toEnd
  rw [cum_up, last_up]
  have : broadcastTo S128x512 (up (φ := .f32) (fun (_ : Fin 1) c => rcum lw 127 c)) broadcasts_S1x512_S128x512
      = up (fun _ c => rcum lw 127 c) := by
    funext i
    idx_vars i
    pointwise
    rfl
  rw [this, subf_up, exp_up]

theorem bT_up : bT (up lw) (up x) = up (fun t c => x t c * Real.exp (rcum lw t c - lw t c)) := by
  unfold bT
  rw [cum_up, subf_up, exp_up, mulf_up]

theorem neg_up : neg (up x) = up (fun t c => -x t c) := by
  unfold neg
  rw [zero_up, subf_up]
  simp only [zero_sub]

theorem aT_up : aT (up lw) (up x) = up (fun t c => -x t c * Real.exp (-rcum lw t c)) := by
  unfold aT
  rw [neg_up, invP_up, mulf_up]
theorem kT_up : kT (up lw) (up x) = up (fun t c => x t c * Real.exp (-rcum lw t c)) := by
  unfold kT
  rw [invP_up, mulf_up]
theorem rT_up : rT (up lw) (up x) = up (fun t c => x t c * Real.exp (rcum lw t c)) := by
  unfold rT
  rw [cum_up, exp_up, mulf_up]
theorem aEnd_up : aEnd (up lw) (up x) = up (fun t c => -x t c * Real.exp (rcum lw 127 c - rcum lw t c)) := by
  unfold aEnd
  rw [neg_up, toEnd_up, mulf_up]
theorem kEnd_up : kEnd (up lw) (up x) = up (fun t c => x t c * Real.exp (rcum lw 127 c - rcum lw t c)) := by
  unfold kEnd
  rw [toEnd_up, mulf_up]
theorem decayEnd_up : decayEnd (up lw) = up (fun _ c => Real.exp (rcum lw 127 c)) := by
  unfold decayEnd
  rw [last_up, exp_up]

end Whole

/-! ## The parts of a pair -/

/-- The products of two arrays' rows over the lanes that `p` keeps. -/
def prodOf (p : Fin 128 → Bool) (x y : Fin 128 → Fin 128 → ℝ) (t s : Fin 128) : ℝ :=
  ∑ l, (if p l then x t l else 0) * y s l
/-- A square's part below the diagonal. -/
def below (x : Fin 128 → Fin 128 → ℝ) (t s : Fin 128) : ℝ := if decide (s.val < t.val) then x t s else 0
/-- A square's part on and below the diagonal. -/
def upTo (x : Fin 128 → Fin 128 → ℝ) (t s : Fin 128) : ℝ := if decide (s.val ≤ t.val) then x t s else 0

section Pair
variable (m : IVec S1x128 1) (p : Fin 128 → Bool) (hm : ∀ l, m (ix2 0 l) = if p l then 1#1 else 0#1)
  (b r a k x y z s0 : Fin 128 → Fin 128 → ℝ)

include hm in
theorem masked_up : select (mask m) (up x) zero = up (fun i l => if p l then x i l else 0) := by
  rw [zero_eq, select_up (mask m) (fun _ l => p l) (fun i j => by rw [mask_at, hm])]

include hm in
theorem g4_up : g4 m (up b) (up r) (up a) (up k)
    = up (fun i j => ∑ l, over (fun t l => if p l then b t l else 0) (fun t l => if p l then r t l else 0) i l
        * over a k j l) := by
  unfold g4
  rw [masked_up m p hm, masked_up m p hm, rows_up, rows_up, truncf_up, truncf_up, mul_nt_256]

include hm in
theorem nS_up : nS (g4 m (up b) (up r) (up a) (up k)) = up (below (prodOf p b a)) := by
  unfold nS
  rw [g4_up m p hm, quad_up _ _ _ (by omega) (by omega), zero_eq, select_up _ _ strict_at]
  simp only [over_lo, over_hi]
  rfl
include hm in
theorem mkS_up : mkS (g4 m (up b) (up r) (up a) (up k)) = up (below (prodOf p b k)) := by
  unfold mkS
  rw [g4_up m p hm, quad_up _ _ _ (by omega) (by omega), zero_eq, select_up _ _ strict_at]
  simp only [over_lo, over_hi]
  rfl
include hm in
theorem rak_up : rak (g4 m (up b) (up r) (up a) (up k))
    = up (beside (upTo (prodOf p r a)) (upTo (prodOf p r k))) := by
  unfold rak
  rw [g4_up m p hm, quad_up _ _ _ (by omega) (by omega), quad_up _ _ _ (by omega) (by omega), zero_eq,
    select_up _ _ incl_at, select_up _ _ incl_at, beside_up]
  refine congrArg up (congrArg₂ beside ?_ ?_) <;> funext t s <;> simp only [over_lo, over_lo', over_hi, upTo, prodOf, zero_add]

theorem mm_up : mm (up x) (up y) = up (fun i j => ∑ l, x i l * y l j) := by
  unfold mm
  rw [truncf_up, truncf_up, mul_128]

theorem top_mm2_up : top (mm2 (up x) (up y) (up z)) = up (fun i j => ∑ l, x i l * z l j) := by
  unfold mm2
  rw [rows_up, truncf_up, truncf_up, mul_256_128, top_up]
  simp only [over_lo']
theorem bot_mm2_up : bot (mm2 (up x) (up y) (up z)) = up (fun i j => ∑ l, y i l * z l j) := by
  unfold mm2
  rw [rows_up, truncf_up, truncf_up, mul_256_128, bot_up]
  simp only [over_hi]

theorem byHead_up : byHead (up x) (up y) (up z)
    = up (fun i j => if hA j then ∑ l, x i l * z l j else ∑ l, y i l * z l j) := by
  unfold byHead
  rw [top_mm2_up, bot_mm2_up, select_up (mask isA) (fun _ l => hA l) (fun i j => by rw [mask_at, isA_at])]

/-- A square matrix as an array. -/
def upM (x : Matrix (Fin 128) (Fin 128) ℝ) : FVec Ideal S128x128 .f32 := up fun i j => x i j

theorem dbl_up (x y : Matrix (Fin 128) (Fin 128) ℝ) :
    dbl (upM x, upM y) = (upM (ChunkMath.dbl (x, y)).1, upM (ChunkMath.dbl (x, y)).2) := by
  simp only [dbl, upM, top_mm2_up, bot_mm2_up, addf_up]
  rfl

theorem inv_up (n : Matrix (Fin 128) (Fin 128) ℝ) : Chunk.inv (upM n) = upM (ChunkMath.inv n) := by
  have h0 : dbl0 (upM n) = (upM (1 + n), upM (n * n)) := by
    simp only [dbl0, upM, mm_up, eye_up, addf_up]
    rfl
  have hl : ∀ x y, dblLast (upM x, upM y) = upM (ChunkMath.dbl (x, y)).1 := fun x y => by
    simp only [dblLast, upM, mm_up, addf_up]
    rfl
  rw [Chunk.inv, h0, dbl_up, dbl_up, dbl_up, dbl_up, dbl_up, hl]
  rfl

theorem top_fs_up : top (fromState (up b) (up r) (up s0)) = up (fun t d => ∑ l, b t l * s0 d l) := by
  unfold fromState
  rw [rows_up, truncf_up, truncf_up, mul_nt_128, top_up]
  simp only [over_lo']
theorem bot_fs_up : bot (fromState (up b) (up r) (up s0)) = up (fun t d => ∑ l, r t l * s0 d l) := by
  unfold fromState
  rw [rows_up, truncf_up, truncf_up, mul_nt_128, bot_up]
  simp only [over_hi]

end Pair

end Cert.ScanIdeal.ChunkReal
-- ==== Proof.ChunkPair.lean ====
module

public import proofs.«01_k».proof.Proof.ChunkReal

/-! The chunk's formulas for one pair, on arrays of real numbers: its results and its state at the
end are those of the recurrence run token by token. -/

@[expose] public section

set_option maxRecDepth 16384

noncomputable section

namespace Cert.ScanIdeal.ChunkPair

open Idealize.ShloMosaic Idealize.SL.Sem Cert.ScanIdeal Cert.ScanIdeal.Gen Cert.ScanIdeal.Chunk
open Cert.ScanIdeal.ChunkReal

/-! ## Any arrays -/

section Arrays

variable (b r a k v s0 : Fin 128 → Fin 128 → ℝ)

/-- What a lane's removals see but for one another. -/
def rhsR (t d : Fin 128) : ℝ := ∑ l, b t l * s0 d l + ∑ s, below (prodOf (hd d) b k) t s * v s d
/-- What a lane's removals see. -/
def uR (t d : Fin 128) : ℝ :=
  ∑ l, ChunkMath.inv (Matrix.of (below (prodOf (hd d) b a))) t l * rhsR b k v s0 l d

theorem hd_A {d : Fin 128} (h : hA d = true) : hd d = hA := by
  funext l
  rw [hd, h]
  cases hA l <;> rfl
theorem hd_B {d : Fin 128} (h : ¬ hA d = true) : hd d = fun l => !hA l := by
  funext l
  rw [hd, (Bool.not_eq_true _).mp h]
  cases hA l <;> rfl

theorem uR_fix (t d : Fin 128) :
    uR b a k v s0 t d = rhsR b k v s0 t d + ∑ s, below (prodOf (hd d) b a) t s * uR b a k v s0 s d := by
  have hN : ∀ x y : Fin 128, ¬ y < x → Matrix.of (below (prodOf (hd d) b a)) x y = 0 := fun x y h => by
    have : ¬ y.val < x.val := h
    simp only [Matrix.of_apply, below, this, decide_false, Bool.false_eq_true, if_false]
  have h := ChunkMath.inv_fix (Matrix.of (below (prodOf (hd d) b a))) le_rfl hN
  have hv := congrFun (congrArg (fun M => M.mulVec fun l => rhsR b k v s0 l d) h) t
  rw [Matrix.add_mulVec, Matrix.one_mulVec, ← Matrix.mulVec_mulVec] at hv
  exact hv

theorem us_up : us (fromState (up b) (up r) (up s0)) (nS (g4 isA (up b) (up r) (up a) (up k)))
    (nS (g4 isB (up b) (up r) (up a) (up k))) (mkS (g4 isA (up b) (up r) (up a) (up k)))
    (mkS (g4 isB (up b) (up r) (up a) (up k))) (up v) = up (uR b a k v s0) := by
  have hr : rhs (fromState (up b) (up r) (up s0)) (mkS (g4 isA (up b) (up r) (up a) (up k)))
      (mkS (g4 isB (up b) (up r) (up a) (up k))) (up v) = up (rhsR b k v s0) := by
    unfold rhs
    rw [mkS_up isA hA (isA_at 0), mkS_up isB (fun l => !hA l) (isB_at 0), byHead_up, top_fs_up, addf_up]
    refine congrArg up (funext fun t => funext fun d => ?_)
    by_cases h : hA d = true
    · rw [rhsR, hd_A h, if_pos h]
    · rw [rhsR, hd_B h, if_neg h]
  unfold us
  rw [hr, nS_up isA hA (isA_at 0), nS_up isB (fun l => !hA l) (isB_at 0)]
  have hA' := inv_up (Matrix.of (below (prodOf hA b a)))
  have hB' := inv_up (Matrix.of (below (prodOf (fun l => !hA l) b a)))
  unfold upM at hA' hB'
  simp only [Matrix.of_apply] at hA' hB'
  rw [show up (below (prodOf hA b a)) = up (φ := .f32) fun i j => below (prodOf hA b a) i j from rfl,
    show up (below (prodOf (fun l => !hA l) b a)) = up (φ := .f32) fun i j => below (prodOf (fun l => !hA l) b a) i j from rfl,
    hA', hB', byHead_up]
  refine congrArg up (funext fun t => funext fun d => ?_)
  by_cases h : hA d = true
  · rw [uR, hd_A h, if_pos h]
  · rw [uR, hd_B h, if_neg h]

theorem yOut_up (u : Fin 128 → Fin 128 → ℝ) :
    yOut (fromState (up b) (up r) (up s0)) (up u) (up v) (rak (g4 isA (up b) (up r) (up a) (up k)))
        (rak (g4 isB (up b) (up r) (up a) (up k)))
      = up fun t d => ∑ l, r t l * s0 d l + (∑ q, upTo (prodOf (hd d) r a) t q * u q d
          + ∑ q, upTo (prodOf (hd d) r k) t q * v q d) := by
  unfold yOut mmR
  rw [rak_up isA hA (isA_at 0), rak_up isB (fun l => !hA l) (isB_at 0), bot_fs_up, rows_up, truncf_up, truncf_up,
    truncf_up, mul_128_256, mul_128_256, select_up (mask isA) (fun _ l => hA l) (fun i j => by rw [mask_at, isA_at]),
    addf_up]
  refine congrArg up (funext fun t => funext fun d => ?_)
  by_cases h : hA d = true
  · rw [if_pos h, hd_A h, sum_beside_over]
  · rw [if_neg h, hd_B h, sum_beside_over]

theorem sOut_up (u aE kE : Fin 128 → Fin 128 → ℝ) (dE : Fin 1 → Fin 128 → ℝ) :
    sOut (up s0) (up u) (up v) (up aE) (up kE) (up dE)
      = up fun d l => s0 d l * dE 0 l + (if hd d l then ∑ q, u q d * aE q l + ∑ q, v q d * kE q l else 0) := by
  have hb : broadcastTo S128x128 (up (φ := .f32) dE) broadcasts_S1x128_S128x128 = up fun _ l => dE 0 l := by
    funext i
    idx_vars i
    pointwise
    rfl
  unfold sOut
  rw [rows_up, rows_up, truncf_up, truncf_up, mul_tn, zero_eq, select_up _ _ same_at, hb, mulf_up, addf_up]
  refine congrArg up (funext fun d => funext fun l => ?_)
  rw [sum_over_over]

end Arrays

/-! ## The recurrence's sums -/

theorem sum_lt (F : ℕ → ℝ) {t : ℕ} (ht : t ≤ 128) :
    ∑ q ∈ Finset.range t, F q = ∑ q : Fin 128, if q.val < t then F q.val else 0 := by
  rw [Fin.sum_univ_eq_sum_range (fun q => if q < t then F q else 0) 128, ← Finset.sum_filter]
  refine Finset.sum_congr (Finset.ext fun q => ?_) fun _ _ => rfl
  simp only [Finset.mem_filter, Finset.mem_range]
  omega

/-- The products with what was written, token by token. -/
theorem pairing (p : Fin 128 → Bool) (x : Fin 128 → ℝ) (a k : Fin 128 → Fin 128 → ℝ) (u v : Fin 128 → ℝ)
    (P : Fin 128 → Prop) [DecidablePred P] :
    ∑ i, x i * (∑ q, if P q then u q * (if p i then a q i else 0) + v q * (if p i then k q i else 0) else 0)
      = ∑ q, (if P q then ∑ i, (if p i then x i else 0) * a q i else 0) * u q
        + ∑ q, (if P q then ∑ i, (if p i then x i else 0) * k q i else 0) * v q := by
  rw [← Finset.sum_add_distrib]
  simp only [Finset.mul_sum]
  rw [Finset.sum_comm]
  refine Finset.sum_congr rfl fun q _ => ?_
  by_cases h : P q
  · simp only [h, if_true, Finset.sum_mul]
    rw [← Finset.sum_add_distrib]
    refine Finset.sum_congr rfl fun i _ => ?_
    by_cases hp : p i = true <;> simp [hp] <;> ring
  · simp [h]

/-! ## A chunk -/

section Chunk

variable (R LW K V KK KKA : ℕ → Fin 512 → ℝ) (o : ℕ) (ho : o + 128 ≤ 512) (s0 : Fin 128 → Fin 128 → ℝ)

/-- The first 128 tokens. -/
def chunk (f : ℕ → Fin 512 → ℝ) : Fin 128 → Fin 512 → ℝ := fun t c => f t.val c

/-- The lanes of a pair, of the 512. -/
def lanes (f : ℕ → Fin 512 → ℝ) (n : ℕ) (l : Fin 128) : ℝ := f n ⟨o + l.val, by omega⟩
/-- The lanes of the head of `d`, the pair's others at zero. -/
def lanesOf (d : Fin 128) (f : ℕ → Fin 512 → ℝ) (n : ℕ) (l : Fin 128) : ℝ := if hd d l then lanes o ho f n l else 0

/-- A value lane's row of the state before token `n`, by the recurrence. -/
def row (d : Fin 128) : ℕ → Fin 128 → ℝ :=
  ChunkMath.run (lanes o ho LW) (lanes o ho KK) (lanesOf o ho d KKA) (lanesOf o ho d K) (fun n => lanes o ho V n d) (s0 d)

theorem rcum_eq (t : Fin 128) (l : Fin 128) :
    rcum (chunk LW) t ⟨o + l.val, by omega⟩ = ChunkMath.cum (lanes o ho LW) (t.val + 1) l := by
  rw [ChunkMath.cum, sum_lt _ (by omega), rcum]
  refine Finset.sum_congr rfl fun j _ => ?_
  by_cases h : j.val ≤ t.val
  · simp only [h, decide_true, if_true, one_mul, Nat.lt_succ_of_le h]
    rfl
  · have : ¬ j.val < t.val + 1 := by omega
    simp only [h, decide_false, Bool.false_eq_true, if_false, zero_mul, this]

/-- The removed keys in the chunk's frame. -/
def bC (t l : Fin 128) : ℝ := lanes o ho KK t.val l * Real.exp (ChunkMath.cum (lanes o ho LW) (t.val + 1) l - lanes o ho LW t.val l)
/-- The readers in the chunk's frame. -/
def rC (t l : Fin 128) : ℝ := lanes o ho R t.val l * Real.exp (ChunkMath.cum (lanes o ho LW) (t.val + 1) l)
/-- The removals in the chunk's frame. -/
def aC (t l : Fin 128) : ℝ := -lanes o ho KKA t.val l * Real.exp (-ChunkMath.cum (lanes o ho LW) (t.val + 1) l)
/-- The keys in the chunk's frame. -/
def kC (t l : Fin 128) : ℝ := lanes o ho K t.val l * Real.exp (-ChunkMath.cum (lanes o ho LW) (t.val + 1) l)
/-- The values. -/
def vC (t l : Fin 128) : ℝ := lanes o ho V t.val l

variable (h : S128x512.Slices ![0, o] S128x128) (h' : S1x512.Slices ![0, o] S1x128)

theorem b_up : sl o h (bT (up (chunk LW)) (up (chunk KK))) = up (bC LW KK o ho) := by
  rw [bT_up, sl_up o h ho]
  simp only [rcum_eq LW o ho]
  rfl
theorem r_up : sl o h (rT (up (chunk LW)) (up (chunk R))) = up (rC R LW o ho) := by
  rw [rT_up, sl_up o h ho]
  simp only [rcum_eq LW o ho]
  rfl
theorem a_up : sl o h (aT (up (chunk LW)) (up (chunk KKA))) = up (aC LW KKA o ho) := by
  rw [aT_up, sl_up o h ho]
  simp only [rcum_eq LW o ho]
  rfl
theorem k_up : sl o h (kT (up (chunk LW)) (up (chunk K))) = up (kC LW K o ho) := by
  rw [kT_up, sl_up o h ho]
  simp only [rcum_eq LW o ho]
  rfl
theorem v_up : sl o h (up (chunk V)) = up (vC V o ho) := by
  rw [sl_up o h ho]
  rfl
theorem aEnd_up' : sl o h (aEnd (up (chunk LW)) (up (chunk KKA)))
    = up fun t l => -lanes o ho KKA t.val l * Real.exp (ChunkMath.cum (lanes o ho LW) 128 l - ChunkMath.cum (lanes o ho LW) (t.val + 1) l) := by
  rw [aEnd_up, sl_up o h ho]
  simp only [rcum_eq LW o ho]
  rfl
theorem kEnd_up' : sl o h (kEnd (up (chunk LW)) (up (chunk K)))
    = up fun t l => lanes o ho K t.val l * Real.exp (ChunkMath.cum (lanes o ho LW) 128 l - ChunkMath.cum (lanes o ho LW) (t.val + 1) l) := by
  rw [kEnd_up, sl_up o h ho]
  simp only [rcum_eq LW o ho]
  rfl
theorem dEnd_up : extractStridedSlice S1x128 ![0, o] (decayEnd (up (chunk LW))) h'
    = up fun _ l => Real.exp (ChunkMath.cum (lanes o ho LW) 128 l) := by
  rw [decayEnd_up, sl1_up o h' ho]
  simp only [rcum_eq LW o ho]
  rfl

/-- What the removals see, over all token numbers. -/
def uN (d : Fin 128) (q : ℕ) : ℝ :=
  if hq : q < 128 then uR (bC LW KK o ho) (aC LW KKA o ho) (kC LW K o ho) (vC V o ho) s0 ⟨q, hq⟩ d else 0

theorem uN_at (d q : Fin 128) : uN LW K V KK KKA o ho s0 d q.val
    = uR (bC LW KK o ho) (aC LW KKA o ho) (kC LW K o ho) (vC V o ho) s0 q d := by
  rw [uN, dif_pos q.isLt]

theorem wrote_eq (d : Fin 128) {t : ℕ} (ht : t ≤ 128) (i : Fin 128) :
    ChunkMath.wrote (lanes o ho LW) (lanesOf o ho d KKA) (lanesOf o ho d K) (fun n => lanes o ho V n d)
        (uN LW K V KK KKA o ho s0 d) t i
      = ∑ q : Fin 128, if q.val < t then
          uR (bC LW KK o ho) (aC LW KKA o ho) (kC LW K o ho) (vC V o ho) s0 q d * (if hd d i then aC LW KKA o ho q i else 0)
            + vC V o ho q d * (if hd d i then kC LW K o ho q i else 0) else 0 := by
  rw [ChunkMath.wrote, sum_lt _ ht]
  refine Finset.sum_congr rfl fun q _ => ?_
  rw [uN_at]
  by_cases hp : hd d i = true <;> simp [lanesOf, hp, aC, kC, vC]

theorem hu (d : Fin 128) : ∀ t < 128, uN LW K V KK KKA o ho s0 d t
    = ∑ i, lanes o ho KK t i * Real.exp (ChunkMath.cum (lanes o ho LW) (t + 1) i - lanes o ho LW t i)
      * (s0 d i + ChunkMath.wrote (lanes o ho LW) (lanesOf o ho d KKA) (lanesOf o ho d K) (fun n => lanes o ho V n d)
        (uN LW K V KK KKA o ho s0 d) t i) := by
  intro t ht
  rw [uN, dif_pos ht, uR_fix, rhsR]
  simp only [wrote_eq LW K V KK KKA o ho s0 d ht.le, mul_add, Finset.sum_add_distrib]
  have hp := pairing (hd d) (bC LW KK o ho ⟨t, ht⟩) (aC LW KKA o ho) (kC LW K o ho)
    (fun q => uR (bC LW KK o ho) (aC LW KKA o ho) (kC LW K o ho) (vC V o ho) s0 q d) (fun q => vC V o ho q d)
    (fun q => q.val < t)
  have e1 : ∀ x : Fin 128 → Fin 128 → ℝ, ∀ q, below (prodOf (hd d) (bC LW KK o ho) x) ⟨t, ht⟩ q
      = if q.val < t then ∑ i, (if hd d i then bC LW KK o ho ⟨t, ht⟩ i else 0) * x q i else 0 := fun x q => by
    simp only [below, prodOf, decide_eq_true_eq]
  simp only [e1]
  rw [add_assoc, add_comm (∑ s, _ * vC V o ho s d), ← hp]
  rfl

/-- A pair's results are the recurrence's. -/
theorem yP_up : yP o h (up (chunk R)) (up (chunk LW)) (up (chunk K)) (up (chunk V)) (up (chunk KK)) (up (chunk KKA)) (up s0)
    = up fun t d => ∑ l, row LW K V KK KKA o ho s0 d (t.val + 1) l * lanes o ho R t.val l := by
  unfold yP uP gA gB fsP
  rw [b_up LW KK o ho, r_up R LW o ho, a_up LW KKA o ho, k_up LW K o ho, v_up V o ho, us_up, yOut_up]
  refine congrArg up (funext fun t => funext fun d => ?_)
  unfold row
  simp only [ChunkMath.run_eq (hu LW K V KK KKA o ho s0 d) (t.val + 1) t.isLt]
  have hp := pairing (hd d) (rC R LW o ho t) (aC LW KKA o ho) (kC LW K o ho)
    (fun q => uR (bC LW KK o ho) (aC LW KKA o ho) (kC LW K o ho) (vC V o ho) s0 q d) (fun q => vC V o ho q d)
    (fun q => q.val < t.val + 1)
  have e1 : ∀ x : Fin 128 → Fin 128 → ℝ, ∀ q, upTo (prodOf (hd d) (rC R LW o ho) x) t q
      = if q.val < t.val + 1 then ∑ i, (if hd d i then rC R LW o ho t i else 0) * x q i else 0 := fun x q => by
    simp only [upTo, prodOf, decide_eq_true_eq, Nat.lt_succ_iff]
  simp only [e1]
  rw [← hp, ← Finset.sum_add_distrib]
  refine Finset.sum_congr rfl fun l _ => ?_
  rw [wrote_eq LW K V KK KKA o ho s0 d (t := t.val + 1) t.isLt, rC]
  ring

/-- A pair's state at the chunk's end is the recurrence's. -/
theorem sP_up : sP o h h' (up (chunk R)) (up (chunk LW)) (up (chunk K)) (up (chunk V)) (up (chunk KK)) (up (chunk KKA)) (up s0)
    = up fun d l => row LW K V KK KKA o ho s0 d 128 l := by
  unfold sP uP gA gB fsP
  rw [b_up LW KK o ho, r_up R LW o ho, a_up LW KKA o ho, k_up LW K o ho, v_up V o ho, us_up, aEnd_up' LW KKA o ho,
    kEnd_up' LW K o ho, dEnd_up LW o ho, sOut_up]
  refine congrArg up (funext fun d => funext fun l => ?_)
  unfold row
  rw [ChunkMath.run_end (hu LW K V KK KKA o ho s0 d), Finset.sum_range]
  refine congrArg _ ?_
  by_cases hp : hd d l = true
  · simp only [hp, if_true, lanesOf, uN_at, Finset.sum_add_distrib]
    rfl
  · simp [hp, lanesOf]

end Chunk

end Cert.ScanIdeal.ChunkPair
-- ==== Proof.Point.lean ====
module

public import proofs.«01_k».proof.Proof.Chunk
public import proofs.«01_k».proof.Proof.Gen.ScanIdeal.Value
public import Idealize.ShloMosaic.Lib.Pointwise
public import Idealize.ShloMosaic.Lib.VecWindow
public import Idealize.ShloMosaic.Lib.Writes

/-! What one grid point leaves: the block of results, the scratch that holds the state, and at a
batch's last point the block of the state, each as the chunk's formulas for its four pairs. -/

@[expose] public section

set_option maxRecDepth 16384

noncomputable section

namespace Cert.ScanIdeal.Point

open Idealize.ShloMosaic Idealize.SL.Sem Cert.ScanIdeal Cert.ScanIdeal.Gen Cert.ScanIdeal.Chunk

variable {F : FTy → Type} [FloatOps F]

theorem slicesAt (p : Fin 4) : S128x512.Slices ![0, 128 * p.val] S128x128 := by
  fin_cases p
  exacts [slices_S128x512_o0_0_S128x128, slices_S128x512_o0_128_S128x128, slices_S128x512_o0_256_S128x128,
    slices_S128x512_o0_384_S128x128]
theorem slicesAt' (p : Fin 4) : S1x512.Slices ![0, 128 * p.val] S1x128 := by
  fin_cases p
  exacts [slices_S1x512_o0_0_S1x128, slices_S1x512_o0_128_S1x128, slices_S1x512_o0_256_S1x128,
    slices_S1x512_o0_384_S1x128]

section Blocks

variable (r lw k v kk kka : Vec F S128x512 .f32) (st : Vec F S4x128x128 .f32)

/-- A pair's state, of the four pairs'. -/
def stP (p : Fin 4) : FVec F S128x128 .f32 := fun i => st (ix3 p (i 0) (i 1))

/-- A pair's results. -/
def pairY (p : Fin 4) (s : FVec F S128x128 .f32) : FVec F S128x128 .f32 :=
  yP (128 * p.val) (slicesAt p) r lw k v kk kka s
/-- A pair's state at the chunk's end. -/
def pairS (p : Fin 4) (s : FVec F S128x128 .f32) : FVec F S128x128 .f32 :=
  sP (128 * p.val) (slicesAt p) (slicesAt' p) r lw k v kk kka s

/-- The block of results: each pair's at its lanes. -/
def yBlock : Vec F S128x512 .f32 := fun i =>
  pairY r lw k v kk kka ⟨(i 1).val / 128, by have : (i 1).val < 512 := (i 1).isLt; omega⟩
    (stP st ⟨(i 1).val / 128, by have : (i 1).val < 512 := (i 1).isLt; omega⟩)
    (ix2 (i 0) ⟨(i 1).val % 128, Nat.mod_lt _ (by decide)⟩)
/-- The state at the chunk's end. -/
def sBlock : Vec F S4x128x128 .f32 := fun i =>
  pairS r lw k v kk kka (i 0) (stP st (i 0)) (ix2 (i 1) (i 2))

/-- The stores of the results, the last first. -/
def yPieces (s : Fin 4 → FVec F S128x128 .f32) : List (View.Piece (Elt F) S128x512 .f32) :=
  [⟨Rect.unit (s := S128x512) ![0, 384] ![128, 128] inb_S128x512_S128x128_0_384, pairY r lw k v kk kka 3 (s 3)⟩,
   ⟨Rect.unit (s := S128x512) ![0, 256] ![128, 128] inb_S128x512_S128x128_0_256, pairY r lw k v kk kka 2 (s 2)⟩,
   ⟨Rect.unit (s := S128x512) ![0, 128] ![128, 128] inb_S128x512_S128x128_0_128, pairY r lw k v kk kka 1 (s 1)⟩,
   ⟨Rect.unit (s := S128x512) ![0, 0] ![128, 128] inb_S128x512_S128x128_0_0, pairY r lw k v kk kka 0 (s 0)⟩]
/-- The stores of the state, the last first. -/
def sPieces (s : Fin 4 → FVec F S128x128 .f32) : List (View.Piece (Elt F) S4x128x128 .f32) :=
  [⟨Rect.unit (s := S4x128x128) ![3, 0, 0] ![1, 128, 128] inb_S4x128x128_S1x128x128_3_0_0,
      shapeCast S1x128x128 (pairS r lw k v kk kka 3 (s 3)) shapeCasts_S128x128_S1x128x128⟩,
   ⟨Rect.unit (s := S4x128x128) ![2, 0, 0] ![1, 128, 128] inb_S4x128x128_S1x128x128_2_0_0,
      shapeCast S1x128x128 (pairS r lw k v kk kka 2 (s 2)) shapeCasts_S128x128_S1x128x128⟩,
   ⟨Rect.unit (s := S4x128x128) ![1, 0, 0] ![1, 128, 128] inb_S4x128x128_S1x128x128_1_0_0,
      shapeCast S1x128x128 (pairS r lw k v kk kka 1 (s 1)) shapeCasts_S128x128_S1x128x128⟩,
   ⟨Rect.unit (s := S4x128x128) ![0, 0, 0] ![1, 128, 128] inb_S4x128x128_S1x128x128_0_0_0,
      shapeCast S1x128x128 (pairS r lw k v kk kka 0 (s 0)) shapeCasts_S128x128_S1x128x128⟩]

theorem yBlock_at (p : Fin 4) (i : S128x512.Idx) (x : S128x128.Idx) (h0 : i 0 = x 0)
    (h1 : (i 1).val = 128 * p.val + (x 1).val) :
    pairY r lw k v kk kka p (stP st p) x = yBlock r lw k v kk kka st i := by
  have hx : (x 1).val < 128 := (x 1).isLt
  have hp : (⟨(i 1).val / 128, by have : (i 1).val < 512 := (i 1).isLt; omega⟩ : Fin 4) = p := Fin.ext (by
    show (i 1).val / 128 = p.val
    omega)
  have hq : (⟨(i 1).val % 128, Nat.mod_lt _ (by decide)⟩ : Fin 128) = x 1 := Fin.ext (by
    show (i 1).val % 128 = (x 1).val
    omega)
  unfold yBlock
  rw [hp, hq, h0, ← eq_ix2 x]

theorem sBlock_at (p : Fin 4) (i : S4x128x128.Idx) (x : S1x128x128.Idx) (h0 : i 0 = p) (h1 : i 1 = x 1)
    (h2 : i 2 = x 2) :
    shapeCast S1x128x128 (pairS r lw k v kk kka p (stP st p)) shapeCasts_S128x128_S1x128x128 x
      = sBlock r lw k v kk kka st i := by
  rw [shapeCast_addUnit_apply, sBlock, h0, h1, h2]
  refine congrArg _ ?_
  funext a
  match a with
  | ⟨0, _⟩ => rfl
  | ⟨1, _⟩ => rfl

theorem yPieces_at : ∀ q ∈ yPieces r lw k v kk kka (stP st), ∀ x : q.1.shape.Idx,
    q.2 x = yBlock r lw k v kk kka st (q.1.emb x) := by
  intro q hq
  simp only [yPieces, List.mem_cons, List.not_mem_nil, or_false] at hq
  rcases hq with rfl | rfl | rfl | rfl <;> intro x
  · exact yBlock_at r lw k v kk kka st 3 _ x (Fin.ext (by show 0 + 1 * _ = _; omega)) (by show 384 + 1 * _ = 384 + _; omega)
  · exact yBlock_at r lw k v kk kka st 2 _ x (Fin.ext (by show 0 + 1 * _ = _; omega)) (by show 256 + 1 * _ = 256 + _; omega)
  · exact yBlock_at r lw k v kk kka st 1 _ x (Fin.ext (by show 0 + 1 * _ = _; omega)) (by show 128 + 1 * _ = 128 + _; omega)
  · exact yBlock_at r lw k v kk kka st 0 _ x (Fin.ext (by show 0 + 1 * _ = _; omega)) (by show 0 + 1 * _ = 0 + _; omega)

theorem sPieces_at : ∀ q ∈ sPieces r lw k v kk kka (stP st), ∀ x : q.1.shape.Idx,
    q.2 x = sBlock r lw k v kk kka st (q.1.emb x) := by
  intro q hq
  simp only [sPieces, List.mem_cons, List.not_mem_nil, or_false] at hq
  rcases hq with rfl | rfl | rfl | rfl <;> intro x <;> have hx : (x 0).val < 1 := (x 0).isLt
  · exact sBlock_at r lw k v kk kka st 3 _ x (Fin.ext (by show 3 + 1 * (x 0).val = 3; omega))
      (Fin.ext (by show 0 + 1 * _ = _; omega)) (Fin.ext (by show 0 + 1 * _ = _; omega))
  · exact sBlock_at r lw k v kk kka st 2 _ x (Fin.ext (by show 2 + 1 * (x 0).val = 2; omega))
      (Fin.ext (by show 0 + 1 * _ = _; omega)) (Fin.ext (by show 0 + 1 * _ = _; omega))
  · exact sBlock_at r lw k v kk kka st 1 _ x (Fin.ext (by show 1 + 1 * (x 0).val = 1; omega))
      (Fin.ext (by show 0 + 1 * _ = _; omega)) (Fin.ext (by show 0 + 1 * _ = _; omega))
  · exact sBlock_at r lw k v kk kka st 0 _ x (Fin.ext (by show 0 + 1 * (x 0).val = 0; omega))
      (Fin.ext (by show 0 + 1 * _ = _; omega)) (Fin.ext (by show 0 + 1 * _ = _; omega))

theorem yPieces_cover (s : Fin 4 → FVec F S128x128 .f32) (y : S128x512.Idx) :
    ∃ q ∈ yPieces r lw k v kk kka s, y ∈ q.1.set :=
  View.cover_of_tiledL (yPieces r lw k v kk kka s) S128x128.size (by rfl) y
theorem sPieces_cover (s : Fin 4 → FVec F S128x128 .f32) (y : S4x128x128.Idx) :
    ∃ q ∈ sPieces r lw k v kk kka s, y ∈ q.1.set :=
  View.cover_of_tiledL (sPieces r lw k v kk kka s) S1x128x128.size (by rfl) y

end Blocks

/-! ## The stores of a point -/

/-- A block as a point loads it. -/
def ldX (arg : Memref sig .tc .vmem S128x512 .f32) (h : arg.IsWhole) (x : Vec F S128x512 .f32) : Vec F S128x512 .f32 :=
  arg.view.readAt (Elt F) (Rect.unit (s := S128x512) ![0, 0] S128x512.size inb_S128x512_S128x512_0_0).toLoadRect (h.unread x)

theorem ldX_eq (arg : Memref sig .tc .vmem S128x512 .f32) (h : arg.IsWhole) (x : Vec F S128x512 .f32) :
    ldX arg h x = x := by
  unfold ldX
  rw [View.readAt_full]
  exact h.read_unread x

/-- The four pairs' states as a point loads them. -/
def ldS (arg : Memref sig .tc .vmem S4x128x128 .f32) (f : arg.view.ty.Contents (Elt F)) : Fin 4 → FVec F S128x128 .f32 :=
  ![shapeCast S128x128 (arg.view.readAt (Elt F) (Rect.unit (s := S4x128x128) ![0, 0, 0] S1x128x128.size inb_S4x128x128_S1x128x128_0_0_0).toLoadRect f) shapeCasts_S1x128x128_S128x128,
    shapeCast S128x128 (arg.view.readAt (Elt F) (Rect.unit (s := S4x128x128) ![1, 0, 0] S1x128x128.size inb_S4x128x128_S1x128x128_1_0_0).toLoadRect f) shapeCasts_S1x128x128_S128x128,
    shapeCast S128x128 (arg.view.readAt (Elt F) (Rect.unit (s := S4x128x128) ![2, 0, 0] S1x128x128.size inb_S4x128x128_S1x128x128_2_0_0).toLoadRect f) shapeCasts_S1x128x128_S128x128,
    shapeCast S128x128 (arg.view.readAt (Elt F) (Rect.unit (s := S4x128x128) ![3, 0, 0] S1x128x128.size inb_S4x128x128_S1x128x128_3_0_0).toLoadRect f) shapeCasts_S1x128x128_S128x128]

theorem ld_at (arg : Memref sig .tc .vmem S4x128x128 .f32) (f : arg.view.ty.Contents (Elt F)) (o : ℕ)
    (inb : ∀ a, (![o, 0, 0] : Fin 3 → ℕ) a + S1x128x128.size a ≤ S4x128x128.size a) (p : Fin 4) (hp : p.val = o) :
    shapeCast S128x128 (arg.view.readAt (Elt F) (Rect.unit (s := S4x128x128) ![o, 0, 0] S1x128x128.size inb).toLoadRect f)
      shapeCasts_S1x128x128_S128x128 = stP (arg.view.read (Elt F) f) p := by
  funext j
  refine (shapeCast_dropUnit_apply _ _ _ j).trans (congrArg (arg.view.read (Elt F) f) ?_)
  funext a
  match a with
  | ⟨0, _⟩ => exact Fin.ext (show o + 1 * 0 = p.val by omega)
  | ⟨1, _⟩ => exact Fin.ext (show 0 + 1 * (j 0).val = (j 0).val by omega)
  | ⟨2, _⟩ => exact Fin.ext (show 0 + 1 * (j 1).val = (j 1).val by omega)

theorem ldS_eq (arg : Memref sig .tc .vmem S4x128x128 .f32) (f : arg.view.ty.Contents (Elt F)) :
    ldS arg f = stP (arg.view.read (Elt F) f) := by
  funext p
  fin_cases p
  exacts [ld_at arg f 0 _ 0 rfl, ld_at arg f 1 _ 1 rfl, ld_at arg f 2 _ 2 rfl, ld_at arg f 3 _ 3 rfl]

section Stores

variable (c : Dev nD) (i : grid0.Coords) (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x512 .f32) (harg6 : arg6.IsWhole) (arg7 : Memref sig .tc .vmem S128x512 .f32) (harg7 : arg7.IsWhole)
    (arg8 : Memref sig .tc .vmem S128x512 .f32) (harg8 : arg8.IsWhole) (arg9 : Memref sig .tc .vmem S1x4x128x128 .f32) (harg9 : arg9.IsWhole)
    (arg10 : Memref sig .tc .vmem S4x128x128 .f32) (harg10 : arg10.IsWhole)
    (x0 x1 x2 x3 x4 x5 : Vec F S128x512 .f32) (xs0 : Vec F S4x128x128 .f32)

theorem stores_B_y (hc0 : ¬cond0_0 i) (hc1 : ¬cond0_1 i) : (kernelRun0_B c i arg2 harg2 arg3 harg3 arg4 harg4 arg5 harg5 arg6 harg6 arg7 harg7 arg8 harg8 arg9 harg9 arg10 harg10 hc0 hc1 x0 x1 x2 x3 x4 x5 xs0).1
    = yPieces (ldX arg2 harg2 x0) (ldX arg3 harg3 x1) (ldX arg4 harg4 x2) (ldX arg5 harg5 x3) (ldX arg6 harg6 x4) (ldX arg7 harg7 x5) (ldS arg10 (harg10.unread xs0)) := by
  unfold kernelRun0_B
  rfl
theorem stores_B_s (hc0 : ¬cond0_0 i) (hc1 : ¬cond0_1 i) : (kernelRun0_B c i arg2 harg2 arg3 harg3 arg4 harg4 arg5 harg5 arg6 harg6 arg7 harg7 arg8 harg8 arg9 harg9 arg10 harg10 hc0 hc1 x0 x1 x2 x3 x4 x5 xs0).2.2.1
    = sPieces (ldX arg2 harg2 x0) (ldX arg3 harg3 x1) (ldX arg4 harg4 x2) (ldX arg5 harg5 x3) (ldX arg6 harg6 x4) (ldX arg7 harg7 x5) (ldS arg10 (harg10.unread xs0)) := by
  unfold kernelRun0_B
  rfl

/-- What a point leaves in its block of results. -/
theorem y_B (hc0 : ¬cond0_0 i) (hc1 : ¬cond0_1 i) : out0_B_6 c i arg2 harg2 arg3 harg3 arg4 harg4 arg5 harg5 arg6 harg6 arg7 harg7 arg8 harg8 arg9 harg9 arg10 harg10 hc0 hc1 x0 x1 x2 x3 x4 x5 xs0 = yBlock x0 x1 x2 x3 x4 x5 xs0 := by
  unfold out0_B_6
  rw [stores_B_y, ldX_eq, ldX_eq, ldX_eq, ldX_eq, ldX_eq, ldX_eq, ldS_eq, harg10.read_unread]
  exact funext fun y => View.read_writes_apply_of_pieces _ _ _ _ (yPieces_at _ _ _ _ _ _ _) y (yPieces_cover _ _ _ _ _ _ _ y)
/-- What a point leaves in the scratch. -/
theorem s_B (hc0 : ¬cond0_0 i) (hc1 : ¬cond0_1 i) : sout0_B_0 c i arg2 harg2 arg3 harg3 arg4 harg4 arg5 harg5 arg6 harg6 arg7 harg7 arg8 harg8 arg9 harg9 arg10 harg10 hc0 hc1 x0 x1 x2 x3 x4 x5 xs0 = sBlock x0 x1 x2 x3 x4 x5 xs0 := by
  unfold sout0_B_0
  rw [stores_B_s, ldX_eq, ldX_eq, ldX_eq, ldX_eq, ldX_eq, ldX_eq, ldS_eq, harg10.read_unread]
  exact funext fun y => View.read_writes_apply_of_pieces _ _ _ _ (sPieces_at _ _ _ _ _ _ _) y (sPieces_cover _ _ _ _ _ _ _ y)

theorem stores_C_y (hc0 : ¬cond0_0 i) (hc1 : cond0_1 i) : (kernelRun0_C c i arg2 harg2 arg3 harg3 arg4 harg4 arg5 harg5 arg6 harg6 arg7 harg7 arg8 harg8 arg9 harg9 arg10 harg10 hc0 hc1 x0 x1 x2 x3 x4 x5 xs0).1
    = yPieces (ldX arg2 harg2 x0) (ldX arg3 harg3 x1) (ldX arg4 harg4 x2) (ldX arg5 harg5 x3) (ldX arg6 harg6 x4) (ldX arg7 harg7 x5) (ldS arg10 (harg10.unread xs0)) := by
  unfold kernelRun0_C
  rfl
theorem stores_C_s (hc0 : ¬cond0_0 i) (hc1 : cond0_1 i) : (kernelRun0_C c i arg2 harg2 arg3 harg3 arg4 harg4 arg5 harg5 arg6 harg6 arg7 harg7 arg8 harg8 arg9 harg9 arg10 harg10 hc0 hc1 x0 x1 x2 x3 x4 x5 xs0).2.2.1
    = sPieces (ldX arg2 harg2 x0) (ldX arg3 harg3 x1) (ldX arg4 harg4 x2) (ldX arg5 harg5 x3) (ldX arg6 harg6 x4) (ldX arg7 harg7 x5) (ldS arg10 (harg10.unread xs0)) := by
  unfold kernelRun0_C
  rfl

/-- What a point leaves in its block of results. -/
theorem y_C (hc0 : ¬cond0_0 i) (hc1 : cond0_1 i) : out0_C_6 c i arg2 harg2 arg3 harg3 arg4 harg4 arg5 harg5 arg6 harg6 arg7 harg7 arg8 harg8 arg9 harg9 arg10 harg10 hc0 hc1 x0 x1 x2 x3 x4 x5 xs0 = yBlock x0 x1 x2 x3 x4 x5 xs0 := by
  unfold out0_C_6
  rw [stores_C_y, ldX_eq, ldX_eq, ldX_eq, ldX_eq, ldX_eq, ldX_eq, ldS_eq, harg10.read_unread]
  exact funext fun y => View.read_writes_apply_of_pieces _ _ _ _ (yPieces_at _ _ _ _ _ _ _) y (yPieces_cover _ _ _ _ _ _ _ y)
/-- What a point leaves in the scratch. -/
theorem s_C (hc0 : ¬cond0_0 i) (hc1 : cond0_1 i) : sout0_C_0 c i arg2 harg2 arg3 harg3 arg4 harg4 arg5 harg5 arg6 harg6 arg7 harg7 arg8 harg8 arg9 harg9 arg10 harg10 hc0 hc1 x0 x1 x2 x3 x4 x5 xs0 = sBlock x0 x1 x2 x3 x4 x5 xs0 := by
  unfold sout0_C_0
  rw [stores_C_s, ldX_eq, ldX_eq, ldX_eq, ldX_eq, ldX_eq, ldX_eq, ldS_eq, harg10.read_unread]
  exact funext fun y => View.read_writes_apply_of_pieces _ _ _ _ (sPieces_at _ _ _ _ _ _ _) y (sPieces_cover _ _ _ _ _ _ _ y)

/-- The state before a batch's first token. -/
def zeros : Vec F S4x128x128 .f32 := k0_pay3

/-- The store that clears the state. -/
def zeroPieces : List (View.Piece (Elt F) S4x128x128 .f32) :=
  [⟨Rect.unit (s := S4x128x128) ![0, 0, 0] S4x128x128.size inb_S4x128x128_S4x128x128_0_0_0, zeros⟩]

theorem stores_A_y (hc0 : cond0_0 i) (hc1 : ¬cond0_1 i) : (kernelRun0_A c i arg2 harg2 arg3 harg3 arg4 harg4 arg5 harg5 arg6 harg6 arg7 harg7 arg8 harg8 arg9 harg9 arg10 harg10 hc0 hc1 x0 x1 x2 x3 x4 x5).1
    = yPieces (ldX arg2 harg2 x0) (ldX arg3 harg3 x1) (ldX arg4 harg4 x2) (ldX arg5 harg5 x3) (ldX arg6 harg6 x4) (ldX arg7 harg7 x5) (ldS arg10 (arg10.view.writes (Elt F) arg10.view.junk zeroPieces)) := by
  unfold kernelRun0_A
  rfl
theorem stores_A_s (hc0 : cond0_0 i) (hc1 : ¬cond0_1 i) : (kernelRun0_A c i arg2 harg2 arg3 harg3 arg4 harg4 arg5 harg5 arg6 harg6 arg7 harg7 arg8 harg8 arg9 harg9 arg10 harg10 hc0 hc1 x0 x1 x2 x3 x4 x5).2.2.1
    = sPieces (ldX arg2 harg2 x0) (ldX arg3 harg3 x1) (ldX arg4 harg4 x2) (ldX arg5 harg5 x3) (ldX arg6 harg6 x4) (ldX arg7 harg7 x5) (ldS arg10 (arg10.view.writes (Elt F) arg10.view.junk zeroPieces)) ++ zeroPieces := by
  unfold kernelRun0_A
  rfl

theorem read_zeroPieces : arg10.view.read (Elt F) (arg10.view.writes (Elt F) arg10.view.junk zeroPieces) = zeros :=
  View.read_writes_full _ _ _ _ _

theorem y_A (hc0 : cond0_0 i) (hc1 : ¬cond0_1 i) : out0_A_6 c i arg2 harg2 arg3 harg3 arg4 harg4 arg5 harg5 arg6 harg6 arg7 harg7 arg8 harg8 arg9 harg9 arg10 harg10 hc0 hc1 x0 x1 x2 x3 x4 x5 = yBlock x0 x1 x2 x3 x4 x5 zeros := by
  unfold out0_A_6
  rw [stores_A_y, ldX_eq, ldX_eq, ldX_eq, ldX_eq, ldX_eq, ldX_eq, ldS_eq, read_zeroPieces]
  exact funext fun y => View.read_writes_apply_of_pieces _ _ _ _ (yPieces_at _ _ _ _ _ _ _) y (yPieces_cover _ _ _ _ _ _ _ y)
theorem s_A (hc0 : cond0_0 i) (hc1 : ¬cond0_1 i) : sout0_A_0 c i arg2 harg2 arg3 harg3 arg4 harg4 arg5 harg5 arg6 harg6 arg7 harg7 arg8 harg8 arg9 harg9 arg10 harg10 hc0 hc1 x0 x1 x2 x3 x4 x5 = sBlock x0 x1 x2 x3 x4 x5 zeros := by
  unfold sout0_A_0
  rw [stores_A_s, ldX_eq, ldX_eq, ldX_eq, ldX_eq, ldX_eq, ldX_eq, ldS_eq, read_zeroPieces, View.writes_append]
  exact funext fun y => View.read_writes_apply_of_pieces _ _ _ _ (sPieces_at _ _ _ _ _ _ _) y (sPieces_cover _ _ _ _ _ _ _ y)

theorem stores_C_o (hc0 : ¬cond0_0 i) (hc1 : cond0_1 i) : (kernelRun0_C c i arg2 harg2 arg3 harg3 arg4 harg4 arg5 harg5 arg6 harg6 arg7 harg7 arg8 harg8 arg9 harg9 arg10 harg10 hc0 hc1 x0 x1 x2 x3 x4 x5 xs0).2.1
    = [⟨Rect.unit (s := S1x4x128x128) ![0, 0, 0, 0] S1x4x128x128.size inb_S1x4x128x128_S1x4x128x128_0_0_0_0,
        shapeCast S1x4x128x128 (arg10.view.readAt (Elt F) (Rect.unit (s := S4x128x128) ![0, 0, 0] S4x128x128.size inb_S4x128x128_S4x128x128_0_0_0).toLoadRect
          (arg10.view.writes (Elt F) arg10.view.junk
            (sPieces (ldX arg2 harg2 x0) (ldX arg3 harg3 x1) (ldX arg4 harg4 x2) (ldX arg5 harg5 x3) (ldX arg6 harg6 x4) (ldX arg7 harg7 x5) (ldS arg10 (harg10.unread xs0))))) shapeCasts_S4x128x128_S1x4x128x128⟩] := by
  unfold kernelRun0_C
  rfl

/-- What a batch's last point leaves in its block of the state. -/
theorem o_C (hc0 : ¬cond0_0 i) (hc1 : cond0_1 i) : out0_C_7 c i arg2 harg2 arg3 harg3 arg4 harg4 arg5 harg5 arg6 harg6 arg7 harg7 arg8 harg8 arg9 harg9 arg10 harg10 hc0 hc1 x0 x1 x2 x3 x4 x5 xs0 = fun j => sBlock x0 x1 x2 x3 x4 x5 xs0 (ix3 (j 1) (j 2) (j 3)) := by
  unfold out0_C_7
  rw [stores_C_o, View.read_writes_full, View.readAt_full, ldX_eq, ldX_eq, ldX_eq, ldX_eq, ldX_eq, ldX_eq, ldS_eq, harg10.read_unread]
  funext j
  refine (shapeCast_addUnit_apply _ _ _ j).trans ?_
  refine (View.read_writes_apply_of_pieces _ _ _ _ (sPieces_at _ _ _ _ _ _ _) _ (sPieces_cover _ _ _ _ _ _ _ _)).trans ?_
  refine congrArg _ ?_
  funext a
  match a with
  | ⟨0, _⟩ => rfl
  | ⟨1, _⟩ => rfl
  | ⟨2, _⟩ => rfl

end Stores

end Cert.ScanIdeal.Point
-- ==== Proof.Tokens.lean ====
module

public import Mathlib.Data.Real.Basic

/-! The tokens of the four batches, as sequences of 512 lanes. -/

@[expose] public section

noncomputable section

namespace Cert.Tokens

/-- A token's lanes, of all batches' tokens; zero past the last. -/
def tok (f : Fin 16384 → Fin 512 → ℝ) (n : ℕ) (l : Fin 512) : ℝ := if h : n < 16384 then f ⟨n, h⟩ l else 0
/-- The tokens from one on. -/
def frm (f : ℕ → Fin 512 → ℝ) (a : ℕ) : ℕ → Fin 512 → ℝ := fun n => f (a + n)

theorem tok_pos (f : Fin 16384 → Fin 512 → ℝ) {n : ℕ} (h : n < 16384) (l : Fin 512) : tok f n l = f ⟨n, h⟩ l := dif_pos h

theorem frm_frm (f : ℕ → Fin 512 → ℝ) (a b : ℕ) : frm (frm f a) b = frm f (a + b) := by
  funext n
  simp only [frm, Nat.add_assoc]

/-- A batch's tokens. -/
abbrev bat (f : Fin 16384 → Fin 512 → ℝ) (b : ℕ) : ℕ → Fin 512 → ℝ := frm (tok f) (4096 * b)

end Cert.Tokens
-- ==== Proof.Sweep.lean ====
module

public import proofs.«01_k».proof.Proof.ChunkPair
public import proofs.«01_k».proof.Proof.Point
public import proofs.«01_k».proof.Proof.Tokens

/-! The kernel's two results at arguments of real numbers: the points of a batch, one after the other,
carry the recurrence's state from chunk to chunk. -/

@[expose] public section

set_option maxRecDepth 16384

noncomputable section

namespace Cert.ScanIdeal.Sweep

open Idealize.ShloMosaic Idealize.SL.Sem Cert.ScanIdeal Cert.ScanIdeal.Gen Cert.ScanIdeal.Chunk
open Cert.ScanIdeal.ChunkReal Cert.ScanIdeal.ChunkPair Cert.ScanIdeal.Point Cert.ScanIdeal.Value
open Cert.Tokens

/-! ## The recurrence from one token on -/

theorem run_add {K : Type} [Fintype K] (lw kk kka k : ℕ → K → ℝ) (v : ℕ → ℝ) (s : K → ℝ) (a : ℕ) : ∀ n : ℕ,
    ChunkMath.run (fun j => lw (a + j)) (fun j => kk (a + j)) (fun j => kka (a + j)) (fun j => k (a + j)) (fun j => v (a + j))
      (ChunkMath.run lw kk kka k v s a) n = ChunkMath.run lw kk kka k v s (a + n)
  | 0 => rfl
  | n + 1 => by
    funext i
    show _ = ChunkMath.run lw kk kka k v s ((a + n) + 1) i
    simp only [ChunkMath.run, run_add lw kk kka k v s a n]

/-- A block of an argument: 128 tokens. -/
abbrev blk (f : ℕ → Fin 512 → ℝ) : Vec Ideal S128x512 .f32 := up (φ := .f32) (chunk f)

/-! ## A sequence's states and results -/

section Seq

variable (R LW K V KK KKA : ℕ → Fin 512 → ℝ)

theorem lanes_le (p : Fin 4) : 128 * p.val + 128 ≤ 512 := by omega

/-- A value lane's row of a pair's state before token `n`, from the state zero. -/
def rowOf (p : Fin 4) (d : Fin 128) (n : ℕ) (l : Fin 128) : ℝ :=
  row LW K V KK KKA (128 * p.val) (lanes_le p) (fun _ _ => 0) d n l

/-- All states before token `n`. -/
def stArr (n : ℕ) : Vec Ideal S4x128x128 .f32 := fun i => ((rowOf LW K V KK KKA (i 0) (i 1) n (i 2) : ℝ) : EReal)

/-- A token's result at a lane of a pair. -/
def resOf (p : Fin 4) (d : Fin 128) (n : ℕ) : ℝ :=
  ∑ l, rowOf LW K V KK KKA p d (n + 1) l * lanes (128 * p.val) (lanes_le p) R n l

/-- The results of the tokens from `a` on. -/
def resArr (a : ℕ) : Vec Ideal S128x512 .f32 := fun i =>
  ((resOf R LW K V KK KKA ⟨(i 1).val / 128, by have : (i 1).val < 512 := (i 1).isLt; omega⟩
    ⟨(i 1).val % 128, Nat.mod_lt _ (by decide)⟩ (a + (i 0).val) : ℝ) : EReal)

theorem row_add (p : Fin 4) (d : Fin 128) (a n : ℕ) (l : Fin 128) :
    row (frm LW a) (frm K a) (frm V a) (frm KK a) (frm KKA a) (128 * p.val) (lanes_le p)
      (fun d l => rowOf LW K V KK KKA p d a l) d n l = rowOf LW K V KK KKA p d (a + n) l :=
  congrFun (run_add (lanes (128 * p.val) (lanes_le p) LW) (lanes (128 * p.val) (lanes_le p) KK)
    (lanesOf (128 * p.val) (lanes_le p) d KKA) (lanesOf (128 * p.val) (lanes_le p) d K)
    (fun n => lanes (128 * p.val) (lanes_le p) V n d) (fun _ => 0) a n) l

theorem stP_stArr (p : Fin 4) (a : ℕ) :
    stP (stArr LW K V KK KKA a) p = up fun d l => rowOf LW K V KK KKA p d a l := rfl

theorem sBlock_up (a : ℕ) :
    sBlock (blk (frm R a)) (blk (frm LW a)) (blk (frm K a)) (blk (frm V a))
      (blk (frm KK a)) (blk (frm KKA a)) (stArr LW K V KK KKA a) = stArr LW K V KK KKA (a + 128) := by
  funext i
  obtain ⟨p, d, l, rfl⟩ : ∃ p d l, i = ix3 p d l := ⟨_, _, _, eq_ix3 i⟩
  show pairS _ _ _ _ _ _ p (stP _ p) (ix2 d l) = _
  rw [stP_stArr, pairS, sP_up _ _ _ _ _ _ _ (lanes_le p)]
  show ((_ : ℝ) : EReal) = ((_ : ℝ) : EReal)
  exact congrArg _ (row_add LW K V KK KKA p d a 128 l)

theorem yBlock_up (a : ℕ) :
    yBlock (blk (frm R a)) (blk (frm LW a)) (blk (frm K a)) (blk (frm V a))
      (blk (frm KK a)) (blk (frm KKA a)) (stArr LW K V KK KKA a) = resArr R LW K V KK KKA a := by
  funext i
  unfold yBlock
  rw [stP_stArr, pairY, yP_up _ _ _ _ _ _ _ (lanes_le _)]
  show ((_ : ℝ) : EReal) = ((_ : ℝ) : EReal)
  refine congrArg _ (Finset.sum_congr rfl fun l _ => ?_)
  exact congrArg (· * _) (row_add LW K V KK KKA _ _ a _ l)

theorem stArr_zero : stArr LW K V KK KKA 0 = zeros := by
  funext i
  show ((0 : ℝ) : EReal) = Scalar.ofBits (F := Ideal) .f32 0x00000000#32
  rw [EReal.coe_zero]
  exact Ideal.ofBits_zero_f32.symm

end Seq

/-! ## The blocks of the arguments -/

variable (m : (ℓ : Loc nD τ sig) → Buf (Elt Ideal) ℓ) (c : Dev nD)
variable (R LW K V KK KKA : Fin 16384 → Fin 512 → ℝ)

theorem block_up (f : Fin 16384 → Fin 512 → ℝ) (t : ℕ) (ht : t < 128) (e : S128x512.Idx → S16384x512.Idx)
    (h0 : ∀ y, (e y 0).val = t * 128 + 1 * (y 0).val) (h1 : ∀ y, (e y 1).val = 0 * 512 + 1 * (y 1).val) :
    (fun y => up (φ := .f32) f (e y)) = blk (frm (tok f) (128 * t)) := by
  funext y
  have hy : (y 0).val < 128 := (y 0).isLt
  show ((_ : ℝ) : EReal) = ((tok f (128 * t + (y 0).val) (y 1) : ℝ) : EReal)
  have hlt : 128 * t + (y 0).val < 16384 := by omega
  have e0 : e y 0 = ⟨128 * t + (y 0).val, hlt⟩ := Fin.ext ((h0 y).trans (by show _ = 128 * t + (y 0).val; omega))
  have e1 : e y 1 = y 1 := Fin.ext ((h1 y).trans (by omega))
  exact congrArg _ ((congr (congrArg f e0) e1).trans (tok_pos f hlt (y 1)).symm)

theorem points : cfg0.N = 128 := N_0
theorem lt_N (t : Fin cfg0.N) : t.val < 128 := lt_of_lt_of_eq t.isLt points

/-- Where the windows of the arguments stand. -/
theorem index_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The arguments, as arrays of real numbers. -/
structure Args : Prop where
  a0 : m ((c.tc : Thread nD τ).loc main_arg0) = up (φ := .f32) R
  a1 : m ((c.tc : Thread nD τ).loc main_arg1) = up (φ := .f32) LW
  a2 : m ((c.tc : Thread nD τ).loc main_arg2) = up (φ := .f32) K
  a3 : m ((c.tc : Thread nD τ).loc main_arg3) = up (φ := .f32) V
  a4 : m ((c.tc : Thread nD τ).loc main_arg4) = up (φ := .f32) KK
  a5 : m ((c.tc : Thread nD τ).loc main_arg5) = up (φ := .f32) KKA

variable {m c R LW K V KK KKA}

theorem iblk_0 (h : Args m c R LW K V KK KKA) (t : Fin cfg0.N) : iblk m c 0 t = blk (frm (tok R) (128 * t.val)) := by
  obtain ⟨i0, i1⟩ := (index_in t).1
  refine Eq.trans ?_ (block_up R t.val (lt_N t) (fun y => ((cfg0.win 0).blk t).view.emb y)
    (fun y => congrArg (· * 128 + 1 * (y 0).val) i0) (fun y => congrArg (· * 512 + 1 * (y 1).val) i1))
  rw [← h.a0]
  rfl

theorem iblk_1 (h : Args m c R LW K V KK KKA) (t : Fin cfg0.N) : iblk m c 1 t = blk (frm (tok LW) (128 * t.val)) := by
  obtain ⟨i0, i1⟩ := (index_in t).2.1
  refine Eq.trans ?_ (block_up LW t.val (lt_N t) (fun y => ((cfg0.win 1).blk t).view.emb y)
    (fun y => congrArg (· * 128 + 1 * (y 0).val) i0) (fun y => congrArg (· * 512 + 1 * (y 1).val) i1))
  rw [← h.a1]
  rfl

theorem iblk_2 (h : Args m c R LW K V KK KKA) (t : Fin cfg0.N) : iblk m c 2 t = blk (frm (tok K) (128 * t.val)) := by
  obtain ⟨i0, i1⟩ := (index_in t).2.2.1
  refine Eq.trans ?_ (block_up K t.val (lt_N t) (fun y => ((cfg0.win 2).blk t).view.emb y)
    (fun y => congrArg (· * 128 + 1 * (y 0).val) i0) (fun y => congrArg (· * 512 + 1 * (y 1).val) i1))
  rw [← h.a2]
  rfl

theorem iblk_3 (h : Args m c R LW K V KK KKA) (t : Fin cfg0.N) : iblk m c 3 t = blk (frm (tok V) (128 * t.val)) := by
  obtain ⟨i0, i1⟩ := (index_in t).2.2.2.1
  refine Eq.trans ?_ (block_up V t.val (lt_N t) (fun y => ((cfg0.win 3).blk t).view.emb y)
    (fun y => congrArg (· * 128 + 1 * (y 0).val) i0) (fun y => congrArg (· * 512 + 1 * (y 1).val) i1))
  rw [← h.a3]
  rfl

theorem iblk_4 (h : Args m c R LW K V KK KKA) (t : Fin cfg0.N) : iblk m c 4 t = blk (frm (tok KK) (128 * t.val)) := by
  obtain ⟨i0, i1⟩ := (index_in t).2.2.2.2.1
  refine Eq.trans ?_ (block_up KK t.val (lt_N t) (fun y => ((cfg0.win 4).blk t).view.emb y)
    (fun y => congrArg (· * 128 + 1 * (y 0).val) i0) (fun y => congrArg (· * 512 + 1 * (y 1).val) i1))
  rw [← h.a4]
  rfl

theorem iblk_5 (h : Args m c R LW K V KK KKA) (t : Fin cfg0.N) : iblk m c 5 t = blk (frm (tok KKA) (128 * t.val)) := by
  obtain ⟨i0, i1⟩ := (index_in t).2.2.2.2.2
  refine Eq.trans ?_ (block_up KKA t.val (lt_N t) (fun y => ((cfg0.win 5).blk t).view.emb y)
    (fun y => congrArg (· * 128 + 1 * (y 0).val) i0) (fun y => congrArg (· * 512 + 1 * (y 1).val) i1))
  rw [← h.a5]
  rfl

/-! ## The sweep -/

/-- A batch's states before its token `n`. -/
abbrev stAt (LW K V KK KKA : Fin 16384 → Fin 512 → ℝ) (b n : ℕ) : Vec Ideal S4x128x128 .f32 :=
  stArr (bat LW b) (bat K b) (bat V b) (bat KK b) (bat KKA b) n
/-- A batch's results of its tokens from `a` on. -/
abbrev resAt (R LW K V KK KKA : Fin 16384 → Fin 512 → ℝ) (b a : ℕ) : Vec Ideal S128x512 .f32 :=
  resArr (bat R b) (bat LW b) (bat K b) (bat V b) (bat KK b) (bat KKA b) a

theorem frm_split (f : Fin 16384 → Fin 512 → ℝ) (t : ℕ) :
    frm (tok f) (128 * t) = frm (bat f (t / 32)) (128 * (t % 32)) := by
  rw [frm_frm]
  congr 1
  omega

theorem yBlock_pt (t : ℕ) :
    yBlock (blk (frm (tok R) (128 * t))) (blk (frm (tok LW) (128 * t))) (blk (frm (tok K) (128 * t)))
      (blk (frm (tok V) (128 * t))) (blk (frm (tok KK) (128 * t))) (blk (frm (tok KKA) (128 * t)))
      (stAt LW K V KK KKA (t / 32) (128 * (t % 32))) = resAt R LW K V KK KKA (t / 32) (128 * (t % 32)) := by
  rw [frm_split R, frm_split LW, frm_split K, frm_split V, frm_split KK, frm_split KKA]
  exact yBlock_up _ _ _ _ _ _ _

theorem sBlock_pt (t : ℕ) :
    sBlock (blk (frm (tok R) (128 * t))) (blk (frm (tok LW) (128 * t))) (blk (frm (tok K) (128 * t)))
      (blk (frm (tok V) (128 * t))) (blk (frm (tok KK) (128 * t))) (blk (frm (tok KKA) (128 * t)))
      (stAt LW K V KK KKA (t / 32) (128 * (t % 32))) = stAt LW K V KK KKA (t / 32) (128 * (t % 32) + 128) := by
  rw [frm_split R, frm_split LW, frm_split K, frm_split V, frm_split KK, frm_split KKA]
  exact sBlock_up _ _ _ _ _ _ _

abbrev Acc := Vec Ideal S128x512 .f32 × Vec Ideal S1x4x128x128 .f32 × Vec Ideal S4x128x128 .f32

/-- What stands after a point: the chunk's results, the state after the chunk, and at the batch's last
point the state in the block of the result. -/
def Good (R LW K V KK KKA : Fin 16384 → Fin 512 → ℝ) (t : ℕ) (x : Acc) : Prop :=
  x.1 = resAt R LW K V KK KKA (t / 32) (128 * (t % 32))
    ∧ x.2.2 = stAt LW K V KK KKA (t / 32) (128 * (t % 32) + 128)
    ∧ (t % 32 = 31 → x.2.1 = fun j => stAt LW K V KK KKA (t / 32) (128 * (t % 32) + 128) (ix3 (j 1) (j 2) (j 3)))

theorem good_first (h : Args m c R LW K V KK KKA) (t : Fin cfg0.N) (acc : Acc) (h0 : t.val % 32 = 0) :
    Good R LW K V KK KKA t.val (stAt0 m c t.val t.isLt acc) := by
  have hz : (zeros : Vec Ideal S4x128x128 .f32) = stAt LW K V KK KKA (t.val / 32) (128 * (t.val % 32)) := by
    rw [h0]
    exact (stArr_zero _ _ _ _ _).symm
  rw [stAt0_A m c t acc h0 (by omega)]
  refine ⟨?_, ?_, fun h1 => absurd h1 (by omega)⟩
  · dsimp only
    refine (y_A ..).trans ?_
    rw [iblk_0 h, iblk_1 h, iblk_2 h, iblk_3 h, iblk_4 h, iblk_5 h, hz]
    exact yBlock_pt _
  · dsimp only
    refine (s_A ..).trans ?_
    rw [iblk_0 h, iblk_1 h, iblk_2 h, iblk_3 h, iblk_4 h, iblk_5 h, hz]
    exact sBlock_pt _

theorem good_next (h : Args m c R LW K V KK KKA) (t : Fin cfg0.N) (acc : Acc) (h0 : ¬t.val % 32 = 0)
    (hs : acc.2.2 = stAt LW K V KK KKA (t.val / 32) (128 * (t.val % 32))) :
    Good R LW K V KK KKA t.val (stAt0 m c t.val t.isLt acc) := by
  by_cases h1 : t.val % 32 = 31
  · rw [stAt0_C m c t acc h0 h1]
    refine ⟨?_, ?_, fun _ => ?_⟩
    · dsimp only
      refine (y_C ..).trans ?_
      rw [iblk_0 h, iblk_1 h, iblk_2 h, iblk_3 h, iblk_4 h, iblk_5 h, hs]
      exact yBlock_pt _
    · dsimp only
      refine (s_C ..).trans ?_
      rw [iblk_0 h, iblk_1 h, iblk_2 h, iblk_3 h, iblk_4 h, iblk_5 h, hs]
      exact sBlock_pt _
    · dsimp only
      refine (o_C ..).trans ?_
      rw [iblk_0 h, iblk_1 h, iblk_2 h, iblk_3 h, iblk_4 h, iblk_5 h, hs, sBlock_pt]
  · rw [stAt0_B m c t acc h0 h1]
    refine ⟨?_, ?_, fun h2 => absurd h2 h1⟩
    · dsimp only
      refine (y_B ..).trans ?_
      rw [iblk_0 h, iblk_1 h, iblk_2 h, iblk_3 h, iblk_4 h, iblk_5 h, hs]
      exact yBlock_pt _
    · dsimp only
      refine (s_B ..).trans ?_
      rw [iblk_0 h, iblk_1 h, iblk_2 h, iblk_3 h, iblk_4 h, iblk_5 h, hs]
      exact sBlock_pt _

theorem good (h : Args m c R LW K V KK KKA) : ∀ (t : ℕ) (ht : 0 + t < cfg0.N),
    Good R LW K V KK KKA t (Pipeline.accAt (fun n h => stAt0 m c n h junk0) (stAt0 m c) 0 t ht)
  | 0, ht => good_first h ⟨0, by omega⟩ _ rfl
  | t + 1, ht => by
    have ih := good h t (by omega)
    rw [Pipeline.accAt_succ]
    have e : 0 + (t + 1) = t + 1 := Nat.zero_add _
    by_cases h0 : (t + 1) % 32 = 0
    · have := good_first h ⟨t + 1, by omega⟩ (Pipeline.accAt (fun n h => stAt0 m c n h junk0) (stAt0 m c) 0 t (by omega)) h0
      simpa only [e] using this
    · have := good_next h ⟨t + 1, by omega⟩ (Pipeline.accAt (fun n h => stAt0 m c n h junk0) (stAt0 m c) 0 t (by omega)) h0 (by
        rw [ih.2.1]
        show stAt LW K V KK KKA _ _ = stAt LW K V KK KKA ((t + 1) / 32) (128 * ((t + 1) % 32))
        rw [show (t + 1) / 32 = t / 32 by omega, show 128 * ((t + 1) % 32) = 128 * (t % 32) + 128 by omega])
      simpa only [e] using this

/-- The kernel's first result: each token's, by the recurrence of its batch. -/
theorem G6_eq (h : Args m c R LW K V KK KKA) (n : Fin 16384) (l : Fin 512) :
    G6 m c (ix2 n l) = ((resOf (bat R (n.val / 4096)) (bat LW (n.val / 4096)) (bat K (n.val / 4096)) (bat V (n.val / 4096))
      (bat KK (n.val / 4096)) (bat KKA (n.val / 4096)) ⟨l.val / 128, by omega⟩ ⟨l.val % 128, Nat.mod_lt _ (by decide)⟩
      (n.val % 4096) : ℝ) : EReal) := by
  have hp : pt6Of (ix2 n l) = n.val / 128 := by
    show 1 * (n.val / 128 - 0) + 1 * (l.val / 512 - 0) = _
    omega
  have hlt : pt6Of (ix2 n l) < cfg0.N := by rw [hp, points]; omega
  have hg := good h (n.val / 128) (by rw [points]; omega)
  unfold G6
  rw [dif_pos hlt, fold0_congr m c _ _ _ (by rw [points]; omega) hp, hg.1]
  have hl : loc6Of (ix2 n l) = ix2 (⟨n.val % 128, Nat.mod_lt _ (by decide)⟩ : Fin 128) l := by
    funext a
    match a with
    | ⟨0, _⟩ => rfl
    | ⟨1, _⟩ => exact Fin.ext (Nat.mod_eq_of_lt l.isLt)
  rw [hl]
  show ((resOf (bat R (n.val / 128 / 32)) (bat LW (n.val / 128 / 32)) (bat K (n.val / 128 / 32)) (bat V (n.val / 128 / 32))
      (bat KK (n.val / 128 / 32)) (bat KKA (n.val / 128 / 32)) ⟨l.val / 128, _⟩ ⟨l.val % 128, _⟩
      (128 * (n.val / 128 % 32) + n.val % 128) : ℝ) : EReal) = _
  rw [show n.val / 128 / 32 = n.val / 4096 by omega, show 128 * (n.val / 128 % 32) + n.val % 128 = n.val % 4096 by omega]

/-- The kernel's second result: each batch's state after its last token. -/
theorem G7_eq (h : Args m c R LW K V KK KKA) (b p : Fin 4) (d l : Fin 128) :
    G7 m c (ix4 b p d l) = ((rowOf (bat LW b.val) (bat K b.val) (bat V b.val) (bat KK b.val) (bat KKA b.val) p d 4096 l : ℝ) : EReal) := by
  have hp : pt7Of (ix4 b p d l) = 32 * b.val + 31 := by
    show 32 * (1 * (b.val / 1 - 0) + 1 * (p.val / 4 - 0) + 1 * (d.val / 128 - 0) + 1 * (l.val / 128 - 0)) + 31 = _
    omega
  have hlt : pt7Of (ix4 b p d l) < cfg0.N := by rw [hp, points]; omega
  have hg := good h (32 * b.val + 31) (by rw [points]; omega)
  unfold G7
  rw [dif_pos hlt, fold0_congr m c _ _ _ (by rw [points]; omega) hp, hg.2.2 (by omega)]
  rw [show (32 * b.val + 31) / 32 = b.val by omega, show 128 * ((32 * b.val + 31) % 32) + 128 = 4096 by omega]
  have e1 : (⟨p.val % 4, Nat.mod_lt _ (by decide)⟩ : Fin 4) = p := Fin.ext (Nat.mod_eq_of_lt p.isLt)
  have e2 : (⟨d.val % 128, Nat.mod_lt _ (by decide)⟩ : Fin 128) = d := Fin.ext (Nat.mod_eq_of_lt d.isLt)
  have e3 : (⟨l.val % 128, Nat.mod_lt _ (by decide)⟩ : Fin 128) = l := Fin.ext (Nat.mod_eq_of_lt l.isLt)
  show ((rowOf (bat LW b.val) (bat K b.val) (bat V b.val) (bat KK b.val) (bat KKA b.val) ⟨p.val % 4, _⟩ ⟨d.val % 128, _⟩ 4096 ⟨l.val % 128, _⟩ : ℝ) : EReal) = _
  rw [e1, e2, e3]

end Cert.ScanIdeal.Sweep
-- ==== Proof.Ref.lean ====
module

public import proofs.«01_k».proof.Proof.ChunkMath
public import proofs.«01_k».proof.Proof.ChunkReal
public import proofs.«01_k».proof.Proof.Tokens
public import proofs.«01_k».proof.Proof.Gen.ScanRefIdeal.Run
public import Idealize.ShloMosaic.Lib.Pointwise

/-! The reference's two results at arguments of real numbers: its loop over the tokens is the
recurrence, head by head. -/

@[expose] public section

set_option maxRecDepth 16384

noncomputable section

namespace Cert.ScanRefIdeal.Ref

open Idealize.ShloMosaic Idealize.SL.Sem Idealize.ShloMosaic.StableHlo
open Cert.ScanRefIdeal Cert.ScanRefIdeal.Gen Cert.ScanRefIdeal.Value Cert.Tokens
open Cert.ScanIdeal.ChunkReal

/-! ## Arguments, token first -/

/-- A lane of a head, of the 512. -/
def lane (h : Fin 8) (x : Fin 64) : Fin 512 := ⟨64 * h.val + x.val, by omega⟩
/-- A batch's tokens at the lanes of a head. -/
def headOf (f : ℕ → Fin 512 → ℝ) (h : Fin 8) (n : ℕ) (x : Fin 64) : ℝ := f n (lane h x)

/-- An argument, token first. -/
def byTok (f : Fin 16384 → Fin 512 → ℝ) : FVec Ideal S4096x4x8x64 .f32 := fun i =>
  ((headOf (bat f (i 1).val) (i 2) (i 0).val (i 3) : ℝ) : EReal)
/-- A token's row of every batch. -/
def rowAt (f : Fin 16384 → Fin 512 → ℝ) (n : ℕ) : FVec Ideal S4x8x64 .f32 := fun i =>
  ((headOf (bat f (i 0).val) (i 1) n (i 2) : ℝ) : EReal)

theorem bat_at (f : Fin 16384 → Fin 512 → ℝ) (b : Fin 4) (n : Fin 4096) (l : Fin 512) :
    bat f b.val n.val l = f ⟨4096 * b.val + n.val, by omega⟩ l := tok_pos f (by omega) l

theorem byTok_eq (f : Fin 16384 → Fin 512 → ℝ) :
    transpose S4096x4x8x64 [1, 0, 2, 3] (shapeCast S4x4096x8x64 (up (φ := .f32) f) shapeCasts_S16384x512_S4x4096x8x64)
      transposes_S4x4096x8x64_S4096x4x8x64_1_0_2_3 = byTok f := by
  funext i
  obtain ⟨n, b, h, x, rfl⟩ : ∃ n b h x, i = ix4 n b h x := ⟨_, _, _, _, eq_ix4 i⟩
  pointwise
  have e1 : (⟨b.val * 4096 + n.val, by omega⟩ : Fin 16384) = ⟨4096 * b.val + n.val, by omega⟩ := Fin.ext (by dsimp only; omega)
  have e2 : (⟨h.val * 64 + x.val, by omega⟩ : Fin 512) = lane h x := Fin.ext (by dsimp only [lane]; omega)
  rw [e1, e2]
  exact congrArg (fun r : ℝ => (r : EReal)) (bat_at f b n (lane h x)).symm

/-- The decays of the reference: the exponentials. -/
theorem exp_up (f : Fin 16384 → Fin 512 → ℝ) :
    Host.exp (F := Ideal) (φ := .f32) (s := S16384x512) (up f) = up fun n l => Real.exp (f n l) := by
  funext i
  exact Ideal.exp_coe _

/-- The rows' starts at token `n`. -/
abbrev starts (c : IVec S_ 32) : Fin 4 → Int :=
  fun k => (((![c, constantI S_ 32 0#32, constantI S_ 32 0#32, constantI S_ 32 0#32] : Fin 4 → (⟨S_, .i32⟩ : BufTy).Contents (Elt Ideal))) k (Shape.Idx.first h_S_)).toInt

/-- The counter at token `n`. -/
def cnt (n : ℕ) : IVec S_ 32 := fun _ => BitVec.ofNat 32 n

theorem toInt_cnt (n : ℕ) (hn : n < 4096) : (BitVec.ofNat 32 n).toInt = n := by
  rw [BitVec.toInt_ofNat']
  simp only [Int.bmod]
  omega

theorem start_0 (n : ℕ) (hn : n < 4096) : Host.clampedStart S4096x4x8x64 S1x4x8x64 rfl (starts (cnt n)) 0 = n :=
  Host.clampedStart_of_le (s := S4096x4x8x64) (t := S1x4x8x64) rfl _ 0 n (toInt_cnt n hn) (by show n + 1 ≤ 4096; omega)
theorem start_1 (n : ℕ) : Host.clampedStart S4096x4x8x64 S1x4x8x64 rfl (starts (cnt n)) 1 = 0 :=
  Host.clampedStart_of_le (s := S4096x4x8x64) (t := S1x4x8x64) rfl _ 1 0 rfl (by show 0 + 4 ≤ 4; omega)
theorem start_2 (n : ℕ) : Host.clampedStart S4096x4x8x64 S1x4x8x64 rfl (starts (cnt n)) 2 = 0 :=
  Host.clampedStart_of_le (s := S4096x4x8x64) (t := S1x4x8x64) rfl _ 2 0 rfl (by show 0 + 8 ≤ 8; omega)
theorem start_3 (n : ℕ) : Host.clampedStart S4096x4x8x64 S1x4x8x64 rfl (starts (cnt n)) 3 = 0 :=
  Host.clampedStart_of_le (s := S4096x4x8x64) (t := S1x4x8x64) rfl _ 3 0 rfl (by show 0 + 64 ≤ 64; omega)

theorem rowAt_eq (f : Fin 16384 → Fin 512 → ℝ) (n : ℕ) (hn : n < 4096) :
    shapeCast S4x8x64 (Host.dynamicSlice S1x4x8x64 (byTok f) (starts (cnt n)) sliceFits_S4096x4x8x64_S1x4x8x64) shapeCasts_S1x4x8x64_S4x8x64
      = rowAt f n := by
  funext i
  obtain ⟨b, h, x, rfl⟩ : ∃ b h x, i = ix3 b h x := ⟨_, _, _, eq_ix3 i⟩
  pointwise
  simp only [start_0 n hn, start_1, start_2, start_3, Nat.zero_add]
  rfl

/-! ## One token -/

section Step

variable (LW KK KKA K V : Fin 16384 → Fin 512 → ℝ)

/-- A value lane's row of a head's state before token `n`. -/
def headRow (b : ℕ) (h : Fin 8) (d : Fin 64) : ℕ → Fin 64 → ℝ :=
  ChunkMath.run (headOf (bat LW b) h) (headOf (bat KK b) h) (headOf (bat KKA b) h) (headOf (bat K b) h)
    (fun n => headOf (bat V b) h n d) (fun _ => 0)

/-- All states before token `n`. -/
def stateAt (n : ℕ) : FVec Ideal S4x8x64x64 .f32 := fun i =>
  ((headRow LW KK KKA K V (i 0).val (i 1) (i 2) n (i 3) : ℝ) : EReal)

/-- A row along the value lanes. -/
abbrev keysB (x : FVec Ideal S4x8x64 .f32) : FVec Ideal S4x8x64x64 .f32 :=
  broadcastInDim S4x8x64x64 ![0, 1, 2, 3] bcast_S4x8x1x64_S4x8x64x64_0_1_2_3 (broadcastInDim S4x8x1x64 ![0, 1, 3] bcast_S4x8x64_S4x8x1x64_0_1_3 x)
/-- A row along the key lanes. -/
abbrev valsB (x : FVec Ideal S4x8x64 .f32) : FVec Ideal S4x8x64x64 .f32 :=
  broadcastInDim S4x8x64x64 ![0, 1, 2, 3] bcast_S4x8x64x1_S4x8x64x64_0_1_2_3 (broadcastInDim S4x8x64x1 ![0, 1, 2] bcast_S4x8x64_S4x8x64x1_0_1_2 x)

theorem keysB_at (x : FVec Ideal S4x8x64 .f32) (b : Fin 4) (h : Fin 8) (d l : Fin 64) : keysB x (ix4 b h d l) = x (ix3 b h l) := by
  pointwise
theorem valsB_at (x : FVec Ideal S4x8x64 .f32) (b : Fin 4) (h : Fin 8) (d l : Fin 64) : valsB x (ix4 b h d l) = x (ix3 b h d) := by
  pointwise

/-- The product of a state with a row. -/
theorem dot_at (s : FVec Ideal S4x8x64x64 .f32) (x : FVec Ideal S4x8x64 .f32) (b : Fin 4) (h : Fin 8) (d : Fin 64) :
    Host.dotGeneral dot_S4x8x64x64_S4x8x64_S4x8x64_3_2_2_n_01_01 none s x (ix3 b h d) = ∑ l : Fin 64, s (ix4 b h d l) * x (ix3 b h l) := by
  pointwise

/-- A token's new state of the old. -/
def next (s : FVec Ideal S4x8x64x64 .f32) (w kk kka k v : FVec Ideal S4x8x64 .f32) : FVec Ideal S4x8x64x64 .f32 :=
  addf (subf (mulf s (keysB w)) (mulf (valsB (Host.dotGeneral dot_S4x8x64x64_S4x8x64_S4x8x64_3_2_2_n_01_01 none s kk)) (keysB kka)))
    (mulf (valsB v) (keysB k))

theorem rowAt_exp (n : ℕ) (hn : n < 4096) (b : Fin 4) (h : Fin 8) (l : Fin 64) :
    rowAt (fun t l => Real.exp (LW t l)) n (ix3 b h l) = ((Real.exp (headOf (bat LW b.val) h n l) : ℝ) : EReal) := by
  show ((bat (fun t l => Real.exp (LW t l)) b.val n (lane h l) : ℝ) : EReal) = ((Real.exp (bat LW b.val n (lane h l)) : ℝ) : EReal)
  have e1 := bat_at (fun t l => Real.exp (LW t l)) b ⟨n, hn⟩ (lane h l)
  have e2 := bat_at LW b ⟨n, hn⟩ (lane h l)
  dsimp only at e1 e2
  rw [e1, e2]

theorem next_up (n : ℕ) (hn : n < 4096) :
    next (stateAt LW KK KKA K V n) (rowAt (fun t l => Real.exp (LW t l)) n) (rowAt KK n) (rowAt KKA n) (rowAt K n) (rowAt V n)
      = stateAt LW KK KKA K V (n + 1) := by
  funext i
  obtain ⟨b, h, d, l, rfl⟩ : ∃ b h d l, i = ix4 b h d l := ⟨_, _, _, _, eq_ix4 i⟩
  show stateAt LW KK KKA K V n (ix4 b h d l) * keysB _ (ix4 b h d l) - valsB _ (ix4 b h d l) * keysB _ (ix4 b h d l)
    + valsB _ (ix4 b h d l) * keysB _ (ix4 b h d l) = _
  rw [keysB_at, keysB_at, keysB_at, valsB_at, valsB_at, dot_at, rowAt_exp LW n hn]
  show ((headRow LW KK KKA K V b.val h d n l : ℝ) : EReal) * _
    - (∑ j : Fin 64, ((headRow LW KK KKA K V b.val h d n j : ℝ) : EReal) * ((headOf (bat KK b.val) h n j : ℝ) : EReal))
        * ((headOf (bat KKA b.val) h n l : ℝ) : EReal)
    + ((headOf (bat V b.val) h n d : ℝ) : EReal) * ((headOf (bat K b.val) h n l : ℝ) : EReal) = _
  simp only [← EReal.coe_mul, ← coe_sum, ← EReal.coe_sub, ← EReal.coe_add]
  rfl

variable (R : Fin 16384 → Fin 512 → ℝ)

/-- A token's result at a lane of a head. -/
def headRes (b : ℕ) (h : Fin 8) (d : Fin 64) (n : ℕ) : ℝ :=
  ∑ l, headRow LW KK KKA K V b h d (n + 1) l * headOf (bat R b) h n l

/-- The results of the tokens before `n`, zero after. -/
def resAt (n : ℕ) : FVec Ideal S4096x4x8x64 .f32 := fun i =>
  if (i 0).val < n then ((headRes LW KK KKA K V R (i 1).val (i 2) (i 3) (i 0).val : ℝ) : EReal) else 0

theorem put_up (n : ℕ) (hn : n < 4096) :
    Host.dynamicUpdateSlice (resAt LW KK KKA K V R n) (broadcastInDim S1x4x8x64 ![1, 2, 3] bcast_S4x8x64_S1x4x8x64_1_2_3
      (Host.dotGeneral (F := Ideal) dot_S4x8x64x64_S4x8x64_S4x8x64_3_2_2_n_01_01 none (stateAt LW KK KKA K V (n + 1)) (rowAt R n)))
      (starts (cnt n)) updateFits_S4096x4x8x64_S1x4x8x64 = resAt LW KK KKA K V R (n + 1) := by
  funext i
  obtain ⟨t, b, h, d, rfl⟩ : ∃ t b h d, i = ix4 t b h d := ⟨_, _, _, _, eq_ix4 i⟩
  pointwise
  simp only [start_0 n hn, start_1, start_2, start_3, Nat.sub_zero, Nat.zero_le, and_true, Fin.eta]
  by_cases ht : t.val = n
  · subst ht
    rw [dif_pos ⟨Nat.le_refl _, Nat.lt_succ_self _⟩]
    refine Eq.trans ?_ (if_pos (Nat.lt_succ_self t.val)).symm
    exact sum_mul (fun x => headRow LW KK KKA K V b.val h d (t.val + 1) x) (fun x => headOf (bat R b.val) h t.val x)
  · rw [dif_neg (fun hc => ht (by omega))]
    show (if t.val < n then _ else _) = if t.val < n + 1 then _ else _
    by_cases hl : t.val < n
    · rw [if_pos hl, if_pos (by omega)]
    · rw [if_neg hl, if_neg (by omega)]

end Step

/-! ## The results, of what the loop leaves -/

theorem out17_at (X : Valuation τ sig (Elt Ideal)) (n : Fin 16384) (l : Fin 512) :
    out_main_v17 X (ix2 n l) = X (Proc.devRef .tc main_v15_8) (ix4 (⟨n.val % 4096, Nat.mod_lt _ (by decide)⟩ : Fin 4096)
      (⟨n.val / 4096, by omega⟩ : Fin 4) (⟨l.val / 64, by omega⟩ : Fin 8) (⟨l.val % 64, Nat.mod_lt _ (by decide)⟩ : Fin 64)) := by
  unfold out_main_v17
  pointwise

theorem congr4 {b b' : Fin 4} {h h' : Fin 8} {d d' l l' : Fin 64} (hb : b.val = b'.val) (hh : h.val = h'.val)
    (hd : d.val = d'.val) (hl : l.val = l'.val) : ix4 b h d l = ix4 b' h' d' l' := by
  rw [Fin.ext hb, Fin.ext hh, Fin.ext hd, Fin.ext hl]

theorem out26_at (X : Valuation τ sig (Elt Ideal)) (b p : Fin 4) (d l : Fin 128) :
    out_main_v26 X (ix4 b p d l) = if d.val / 64 = l.val / 64 then X (Proc.devRef .tc main_v15_7) (ix4 b
      (⟨2 * p.val + d.val / 64, by omega⟩ : Fin 8) (⟨d.val % 64, Nat.mod_lt _ (by decide)⟩ : Fin 64) (⟨l.val % 64, Nat.mod_lt _ (by decide)⟩ : Fin 64)) else (0 : EReal) := by
  unfold out_main_v26
  pointwise
  by_cases hd : d.val < 64 <;> by_cases hl : l.val < 64
  · rw [dif_pos hd, dif_pos hl]
    refine Eq.trans ?_ (if_pos (by omega)).symm
    exact congrArg _ (congr4 rfl (by dsimp only; omega) (by dsimp only; omega) (by dsimp only; omega))
  · rw [dif_pos hd, dif_neg hl, if_neg (by omega)]
  · rw [dif_neg hd, dif_pos hl, if_neg (by omega)]
  · rw [dif_neg hd, dif_neg hl]
    refine Eq.trans ?_ (if_pos (by omega)).symm
    exact congrArg _ (congr4 rfl (by dsimp only; omega) (by dsimp only; omega) (by dsimp only; omega))

/-! ## The loop -/

section Loop

variable (m : (ℓ : Loc nD τ sig) → Buf (Elt Ideal) ℓ) (c : Dev nD)

/-- An argument as the loop takes it. -/
abbrev tokFirst (x : FVec Ideal S16384x512 .f32) : FVec Ideal S4096x4x8x64 .f32 :=
  transpose S4096x4x8x64 [1, 0, 2, 3] (shapeCast S4x4096x8x64 x shapeCasts_S16384x512_S4x4096x8x64) transposes_S4x4096x8x64_S4096x4x8x64_1_0_2_3

theorem entry_0 : entryContents preI m c (Proc.devRef .tc main_v15_0) = tokFirst (m ((c.tc : Thread nD τ).loc main_arg0)) := by
  simp only [entryContents, afterL_cons, afterL_nil]
  after_reads_simp
  rfl
theorem entry_1 : entryContents preI m c (Proc.devRef .tc main_v15_1) = tokFirst (Host.exp (F := Ideal) (φ := .f32) (s := S16384x512) (m ((c.tc : Thread nD τ).loc main_arg1))) := by
  simp only [entryContents, afterL_cons, afterL_nil]
  after_reads_simp
  rfl
theorem entry_2 : entryContents preI m c (Proc.devRef .tc main_v15_2) = tokFirst (m ((c.tc : Thread nD τ).loc main_arg2)) := by
  simp only [entryContents, afterL_cons, afterL_nil]
  after_reads_simp
  rfl
theorem entry_3 : entryContents preI m c (Proc.devRef .tc main_v15_3) = tokFirst (m ((c.tc : Thread nD τ).loc main_arg3)) := by
  simp only [entryContents, afterL_cons, afterL_nil]
  after_reads_simp
  rfl
theorem entry_4 : entryContents preI m c (Proc.devRef .tc main_v15_4) = tokFirst (m ((c.tc : Thread nD τ).loc main_arg4)) := by
  simp only [entryContents, afterL_cons, afterL_nil]
  after_reads_simp
  rfl
theorem entry_5 : entryContents preI m c (Proc.devRef .tc main_v15_5) = tokFirst (m ((c.tc : Thread nD τ).loc main_arg5)) := by
  simp only [entryContents, afterL_cons, afterL_nil]
  after_reads_simp
  rfl
theorem entry_7 : entryContents preI m c (Proc.devRef .tc main_v15_7)
    = broadcastInDim S4x8x64x64 ![] bcast_S_S4x8x64x64 (constant (F := Ideal) S_ .f32 0x00000000#32) := by
  simp only [entryContents, afterL_cons, afterL_nil]
  after_reads_simp
  rfl
theorem entry_8 : entryContents preI m c (Proc.devRef .tc main_v15_8)
    = broadcastInDim S4096x4x8x64 ![] bcast_S_S4096x4x8x64 (constant (F := Ideal) S_ .f32 0x00000000#32) := by
  simp only [entryContents, afterL_cons, afterL_nil]
  after_reads_simp
  rfl

variable (R LW K V KK KKA : Fin 16384 → Fin 512 → ℝ)

/-- The arguments, as arrays of real numbers. -/
structure Args : Prop where
  a0 : m ((c.tc : Thread nD τ).loc main_arg0) = up (φ := .f32) R
  a1 : m ((c.tc : Thread nD τ).loc main_arg1) = up (φ := .f32) LW
  a2 : m ((c.tc : Thread nD τ).loc main_arg2) = up (φ := .f32) K
  a3 : m ((c.tc : Thread nD τ).loc main_arg3) = up (φ := .f32) V
  a4 : m ((c.tc : Thread nD τ).loc main_arg4) = up (φ := .f32) KK
  a5 : m ((c.tc : Thread nD τ).loc main_arg5) = up (φ := .f32) KKA

/-- What the loop's buffers hold before token `n`. -/
structure Before (n : ℕ) (X : Valuation τ sig (Elt Ideal)) : Prop where
  b0 : X (Proc.devRef .tc main_v15_0) = byTok R
  b1 : X (Proc.devRef .tc main_v15_1) = byTok fun t l => Real.exp (LW t l)
  b2 : X (Proc.devRef .tc main_v15_2) = byTok K
  b3 : X (Proc.devRef .tc main_v15_3) = byTok V
  b4 : X (Proc.devRef .tc main_v15_4) = byTok KK
  b5 : X (Proc.devRef .tc main_v15_5) = byTok KKA
  b6 : X (Proc.devRef .tc main_v15_6) = cnt n
  b7 : X (Proc.devRef .tc main_v15_7) = stateAt LW KK KKA K V n
  b8 : X (Proc.devRef .tc main_v15_8) = resAt LW KK KKA K V R n

variable {m c R LW K V KK KKA}

theorem before_zero (h : Args m c R LW K V KK KKA) : Before R LW K V KK KKA 0 (entryContents preI m c) where
  b0 := (entry_0 m c).trans (by rw [h.a0]; exact byTok_eq R)
  b1 := (entry_1 m c).trans (by rw [h.a1, exp_up]; exact byTok_eq _)
  b2 := (entry_2 m c).trans (by rw [h.a2]; exact byTok_eq K)
  b3 := (entry_3 m c).trans (by rw [h.a3]; exact byTok_eq V)
  b4 := (entry_4 m c).trans (by rw [h.a4]; exact byTok_eq KK)
  b5 := (entry_5 m c).trans (by rw [h.a5]; exact byTok_eq KKA)
  b6 := ctr_entry m c
  b7 := (entry_7 m c).trans (funext fun _ => Ideal.ofBits_zero_f32.trans EReal.coe_zero.symm)
  b8 := (entry_8 m c).trans (funext fun i => Ideal.ofBits_zero_f32.trans (if_neg (Nat.not_lt_zero _)).symm)

theorem new_state {n : ℕ} (hn : n < 4096) {X : Valuation τ sig (Elt Ideal)} (h : Before R LW K V KK KKA n X) :
    res_main_while0b_v48 X = stateAt LW KK KKA K V (n + 1) := by
  unfold res_main_while0b_v48
  rw [h.b1, h.b2, h.b3, h.b4, h.b5, h.b6, h.b7]
  refine Eq.trans ?_ (next_up LW KK KKA K V n hn)
  rw [← rowAt_eq _ n hn, ← rowAt_eq KK n hn, ← rowAt_eq KKA n hn, ← rowAt_eq K n hn, ← rowAt_eq V n hn]
  rfl

theorem before_succ {n : ℕ} (hn : n < 4096) {X : Valuation τ sig (Elt Ideal)} (h : Before R LW K V KK KKA n X) :
    Before R LW K V KK KKA (n + 1) (STEP X) where
  b0 := (STEP_main_v15_0 X).trans h.b0
  b1 := (STEP_main_v15_1 X).trans h.b1
  b2 := (STEP_main_v15_2 X).trans h.b2
  b3 := (STEP_main_v15_3 X).trans h.b3
  b4 := (STEP_main_v15_4 X).trans h.b4
  b5 := (STEP_main_v15_5 X).trans h.b5
  b6 := (STEP_main_v15_6 X).trans (by
    unfold step_main_v15_6
    rw [h.b6]
    exact funext fun _ => (BitVec.ofNat_add n 1).symm)
  b7 := (STEP_main_v15_7 X).trans (new_state hn h)
  b8 := (STEP_main_v15_8 X).trans (by
    unfold step_main_v15_8
    rw [new_state hn h, h.b0, h.b6, h.b8]
    refine Eq.trans ?_ (put_up LW KK KKA K V R n hn)
    rw [← rowAt_eq R n hn]
    rfl)

theorem before (h : Args m c R LW K V KK KKA) : ∀ n : ℕ, n ≤ 4096 → Before R LW K V KK KKA n (STEP^[n] (entryContents preI m c))
  | 0, _ => before_zero h
  | n + 1, hn => by
    rw [Function.iterate_succ_apply']
    exact before_succ (by omega) (before h n (by omega))

/-- The reference's first result: each token's, by the recurrence of its batch and head. -/
theorem out17_eq (h : Args m c R LW K V KK KKA) (n : Fin 16384) (l : Fin 512) :
    out_main_v17 (STEP^[4096] (entryContents preI m c)) (ix2 n l)
      = ((headRes LW KK KKA K V R (n.val / 4096) ⟨l.val / 64, by omega⟩ ⟨l.val % 64, Nat.mod_lt _ (by decide)⟩ (n.val % 4096) : ℝ) : EReal) := by
  rw [out17_at, (before h 4096 (Nat.le_refl _)).b8]
  exact if_pos (Nat.mod_lt _ (by decide))

/-- The reference's second result: each batch's states after its last token, two heads to a pair. -/
theorem out26_eq (h : Args m c R LW K V KK KKA) (b p : Fin 4) (d l : Fin 128) :
    out_main_v26 (STEP^[4096] (entryContents preI m c)) (ix4 b p d l)
      = if d.val / 64 = l.val / 64 then ((headRow LW KK KKA K V b.val ⟨2 * p.val + d.val / 64, by omega⟩
          ⟨d.val % 64, Nat.mod_lt _ (by decide)⟩ 4096 ⟨l.val % 64, Nat.mod_lt _ (by decide)⟩ : ℝ) : EReal) else 0 := by
  rw [out26_at, (before h 4096 (Nat.le_refl _)).b7]
  rfl

end Loop

end Cert.ScanRefIdeal.Ref
-- ==== Proof.Match.lean ====
module

public import proofs.«01_k».proof.Proof.Sweep
public import proofs.«01_k».proof.Proof.Ref

/-! A pair's recurrence on 128 lanes is, lane by lane, that of its two heads on 64: what lies between
the heads stays zero. -/

@[expose] public section

set_option maxRecDepth 16384

noncomputable section

namespace Cert.Proof.Match

open Cert.Tokens Cert.ScanIdeal.ChunkReal Cert.ScanIdeal.ChunkPair Cert.ScanIdeal.Sweep
open Cert.ScanRefIdeal.Ref (headOf lane headRow headRes)

/-- The head of a lane of a pair. -/
def headAt (p : Fin 4) (d : Fin 128) : Fin 8 := ⟨2 * p.val + d.val / 64, by omega⟩
/-- A lane of a pair, in its head. -/
def inHead (d : Fin 128) : Fin 64 := ⟨d.val % 64, Nat.mod_lt _ (by decide)⟩

theorem same_iff (d l : Fin 128) : hd d l = true ↔ d.val / 64 = l.val / 64 := by
  simp only [hd, hA, beq_iff_eq, decide_eq_decide]
  omega

theorem lanes_head (p : Fin 4) (d l : Fin 128) (h : d.val / 64 = l.val / 64) (f : ℕ → Fin 512 → ℝ) (n : ℕ) :
    lanes (128 * p.val) (lanes_le p) f n l = headOf f (headAt p d) n (inHead l) :=
  congrArg (f n) (Fin.ext (by
    show 128 * p.val + l.val = 64 * (2 * p.val + d.val / 64) + l.val % 64
    omega))

/-- A sum over a pair's lanes of what is zero outside a head. -/
theorem sum_head (d : Fin 128) (g : Fin 64 → ℝ) (f : Fin 128 → ℝ) (f' : Fin 64 → ℝ)
    (hf : ∀ l : Fin 128, d.val / 64 = l.val / 64 → f l = f' (inHead l)) :
    ∑ l : Fin 128, (if d.val / 64 = l.val / 64 then g (inHead l) else 0) * f l = ∑ x : Fin 64, g x * f' x := by
  have e : ∀ l : Fin 128, (if d.val / 64 = l.val / 64 then g (inHead l) else 0) * f l
      = if d.val / 64 = l.val / 64 then g (inHead l) * f' (inHead l) else 0 := fun l => by
    by_cases h : d.val / 64 = l.val / 64
    · rw [if_pos h, if_pos h, hf l h]
    · rw [if_neg h, if_neg h, zero_mul]
  rw [Finset.sum_congr rfl fun l _ => e l, Fin.sum_univ_add (a := 64) (b := 64)]
  have hlo : ∀ x : Fin 64, (Fin.castAdd 64 x).val / 64 = 0 := fun x => by
    show x.val / 64 = 0
    omega
  have hhi : ∀ x : Fin 64, (Fin.natAdd 64 x).val / 64 = 1 := fun x => by
    show (64 + x.val) / 64 = 1
    omega
  have elo : ∀ x : Fin 64, inHead (Fin.castAdd 64 x) = x := fun x => Fin.ext (Nat.mod_eq_of_lt x.isLt)
  have ehi : ∀ x : Fin 64, inHead (Fin.natAdd 64 x) = x := fun x => Fin.ext (by
    show (64 + x.val) % 64 = x.val
    omega)
  simp only [hlo, hhi, elo, ehi]
  by_cases h : d.val / 64 = 0
  · have h1 : ¬ d.val / 64 = 1 := by omega
    simp only [if_pos h, if_neg h1, Finset.sum_const_zero, add_zero]
  · have h1 : d.val / 64 = 1 := by omega
    simp only [if_neg h, if_pos h1, Finset.sum_const_zero, zero_add]

variable (R LW K V KK KKA : Fin 16384 → Fin 512 → ℝ) (b : ℕ)

theorem rowOf_eq (p : Fin 4) (d : Fin 128) : ∀ (n : ℕ) (l : Fin 128),
    rowOf (bat LW b) (bat K b) (bat V b) (bat KK b) (bat KKA b) p d n l
      = if d.val / 64 = l.val / 64 then headRow LW KK KKA K V b (headAt p d) (inHead d) n (inHead l) else 0
  | 0, l => (ite_self _).symm
  | n + 1, l => by
    have ih := rowOf_eq p d n
    show rowOf (bat LW b) (bat K b) (bat V b) (bat KK b) (bat KKA b) p d n l * Real.exp (lanes (128 * p.val) (lanes_le p) (bat LW b) n l)
      - (∑ j, rowOf (bat LW b) (bat K b) (bat V b) (bat KK b) (bat KKA b) p d n j * lanes (128 * p.val) (lanes_le p) (bat KK b) n j)
        * (if hd d l then lanes (128 * p.val) (lanes_le p) (bat KKA b) n l else 0)
      + lanes (128 * p.val) (lanes_le p) (bat V b) n d * (if hd d l then lanes (128 * p.val) (lanes_le p) (bat K b) n l else 0) = _
    simp only [ih]
    rw [sum_head d _ _ (headOf (bat KK b) (headAt p d) n) fun j h => lanes_head p d j h (bat KK b) n]
    by_cases h : d.val / 64 = l.val / 64
    · have hh := (same_iff d l).mpr h
      rw [if_pos h, if_pos h, if_pos hh, if_pos hh, lanes_head p d l h, lanes_head p d l h, lanes_head p d l h,
        lanes_head p d d rfl]
      rfl
    · have hh : ¬ hd d l = true := fun hc => h ((same_iff d l).mp hc)
      rw [if_neg h, if_neg h, if_neg hh, if_neg hh]
      ring

theorem resOf_eq (p : Fin 4) (d : Fin 128) (n : ℕ) :
    resOf (bat R b) (bat LW b) (bat K b) (bat V b) (bat KK b) (bat KKA b) p d n
      = headRes LW KK KKA K V R b (headAt p d) (inHead d) n := by
  unfold resOf headRes
  simp only [rowOf_eq]
  exact sum_head d _ _ (headOf (bat R b) (headAt p d) n) fun j h => lanes_head p d j h (bat R b) n

end Cert.Proof.Match
-- ==== Proof.Finite.lean ====
module

public import proofs.«01_k».proof.Defs
public import proofs.«01_k».proof.Proof.Gen.Pre_finite
public import proofs.«01_k».proof.Proof.ChunkReal
public import Idealize.ShloMosaic.Lib.ReduceAll

/-! What the precondition says: every element of every argument is a real number. -/

@[expose] public section

noncomputable section

namespace Cert.Proof.Finite

open Idealize.ShloMosaic Cert.Pre_finite Cert.Pre_finite.Facts Cert.ScanIdeal.ChunkReal

attribute [local instance] Cert.Pre_finite.Gen.facts

theorem inf_eq : Ideal.ofBits .f32 0x7F800000#32 = (⊤ : EReal) := by simp [Ideal.ofBits, Ideal.ieee]

theorem lt_top_of (a : EReal) (h : max a (-a) < ⊤) : ∃ r : ℝ, a = r := by
  obtain ⟨h1, h2⟩ := max_lt_iff.mp h
  refine ⟨a.toReal, (EReal.coe_toReal h1.ne fun hb => ?_).symm⟩
  rw [hb, EReal.neg_bot] at h2
  exact lt_irrefl _ h2

/-- An argument whose magnitudes are all below infinity is an array of real numbers. -/
theorem reals (x : FVec Ideal S16384x512 .f32) (j : S_.Idx)
    (h : Host.reduce IntOp.andi (cmpf .olt (Host.absf x) (broadcastInDim S16384x512 ![] bcast_S_S16384x512 (constant (F := Ideal) S_ .f32 0x7F800000#32)))
      (constantI S_ 1 1#1) reducesTo_S16384x512_S_d0_1 h_S_ j = 1#1) :
    ∃ f : Fin 16384 → Fin 512 → ℝ, x = up f := by
  haveI : Subsingleton S_.Idx := ⟨fun a b => funext fun i => i.elim0⟩
  have key : ∀ i : S16384x512.Idx, ∃ r : ℝ, x i = (r : EReal) := fun i => by
    have e := Host.reduce_andi_all _ _ _ _ j h i
    have e' : BitVec.ofBool (decide (max (x i) (-x i) < Ideal.ofBits .f32 0x7F800000#32)) = 1#1 := e
    rw [inf_eq] at e'
    refine lt_top_of (x i) ?_
    by_contra hc
    rw [decide_eq_false hc] at e'
    exact absurd e' (by decide)
  choose f hf using key
  refine ⟨fun n l => f (ix2 n l), funext fun i => ?_⟩
  exact (hf i).trans (congrArg (fun k => ((f k : ℝ) : EReal)) (eq_ix2 i))

theorem all_reals (x0 x1 x2 x3 x4 x5 : FVec Ideal S16384x512 .f32) (h : Cert.Pre_finite.fn (F := Ideal) x0 x1 x2 x3 x4 x5 = fun _ => 1#1) :
    (∃ f : Fin 16384 → Fin 512 → ℝ, x0 = up f) ∧ (∃ f : Fin 16384 → Fin 512 → ℝ, x1 = up f) ∧ (∃ f : Fin 16384 → Fin 512 → ℝ, x2 = up f)
      ∧ (∃ f : Fin 16384 → Fin 512 → ℝ, x3 = up f) ∧ (∃ f : Fin 16384 → Fin 512 → ℝ, x4 = up f) ∧ (∃ f : Fin 16384 → Fin 512 → ℝ, x5 = up f) := by
  have e := congrFun h (Shape.Idx.first h_S_)
  obtain ⟨e4, h5⟩ := IntOp.andi_eq_one.mp e
  obtain ⟨e3, h4⟩ := IntOp.andi_eq_one.mp e4
  obtain ⟨e2, h3⟩ := IntOp.andi_eq_one.mp e3
  obtain ⟨e1, h2⟩ := IntOp.andi_eq_one.mp e2
  obtain ⟨h0, h1⟩ := IntOp.andi_eq_one.mp e1
  exact ⟨reals x0 _ h0, reals x1 _ h1, reals x2 _ h2, reals x3 _ h3, reals x4 _ h4, reals x5 _ h5⟩

end Cert.Proof.Finite
-- ==== Proof.Rows.lean ====
module

public import Idealize.ShloMosaic.Lib.Pointwise

/-! A row scaled by the root of its mean square: the layer's norm, on the extended reals. -/

@[expose] public section

noncomputable section

namespace Cert.Rows

open Idealize.ShloMosaic

/-- A row over the root of its mean square (1024 lanes, the small constant in the mean), times the scales. -/
def normRow (x g : Fin 1024 → EReal) (k : Fin 1024) : EReal :=
  x k * Ideal.rsqrt (Ideal.div (∑ j, x j * x j) (Ideal.ofBits .f32 0x44800000#32) + Ideal.ofBits .f32 0x358637BD#32) * g k

end Cert.Rows
-- ==== Proof.ProjRef.lean ====
module

public import proofs.«01_k».proof.Proof.Rows
public import proofs.«01_k».proof.Proof.Gen.ProjRefIdeal.Run
public import Idealize.ShloMosaic.Lib.Pointwise

/-! The reference's projection at an index. -/

@[expose] public section

set_option maxRecDepth 16384

noncomputable section

namespace Cert.ProjRefIdeal.Ref

open Idealize.ShloMosaic Idealize.SL.Sem Cert.ProjRefIdeal Cert.ProjRefIdeal.Gen Cert.ProjRefIdeal.Value Cert.Rows

/-- An element of the projection: a token's normalised row with a column of the weights. -/
def dotAt (x : Vec Ideal S4x4096x1024 .f32) (g : Vec Ideal S1024 .f32) (w : Vec Ideal S1024x7944 .f32) (n : Fin 16384)
    (j : Fin 7944) : EReal :=
  ∑ k, normRow (fun l => x (ix3 ⟨n.val / 4096, by omega⟩ ⟨n.val % 4096, by omega⟩ l)) (fun l => g (ix1 l)) k * w (ix2 k j)

/-- The columns as they are laid out: the third group, eight steps, columns of zeros, the first group, the gates. -/
def colAt (d : Fin 7944 → EReal) (j : Fin 8192) : EReal :=
  if h0 : j.val < 1792 then d ⟨3080 + j.val, by omega⟩
  else if h1 : j.val < 1800 then d ⟨3072 + (j.val - 1792), by omega⟩
  else if h2 : j.val < 2048 then 0
  else if h3 : j.val < 5120 then d ⟨j.val - 2048, by omega⟩
  else d ⟨4872 + (j.val - 5120), by omega⟩

/-- The same columns counted within each group. -/
theorem colAt_eq (d : Fin 7944 → EReal) (j : Fin 8192) :
    (if h : j.val < 1792 then d ⟨3080 + j.val, by omega⟩
      else if h : j.val - 1792 < 8 then d ⟨3072 + (j.val - 1792), by omega⟩
      else if h : j.val - 1792 - 8 < 248 then 0
      else if h : j.val - 1792 - 8 - 248 < 3072 then d ⟨j.val - 1792 - 8 - 248, by omega⟩
      else d ⟨4872 + (j.val - 1792 - 8 - 248 - 3072), by omega⟩) = colAt d j := by
  have e : j.val - 1792 - 8 - 248 = j.val - 2048 := by omega
  have e' : j.val - 2048 - 3072 = j.val - 5120 := by omega
  unfold colAt
  simp only [e, e']
  by_cases h0 : j.val < 1792
  · simp only [h0, dite_true]
  by_cases h1 : j.val < 1800
  · have h1' : j.val - 1792 < 8 := by omega
    simp only [h0, h1, h1', dite_true, dite_false]
  by_cases h2 : j.val < 2048
  · have h1' : ¬j.val - 1792 < 8 := by omega
    have h2' : j.val - 1792 - 8 < 248 := by omega
    simp only [h0, h1, h1', h2, h2', dite_true, dite_false]
  have h1' : ¬j.val - 1792 < 8 := by omega
  have h2' : ¬j.val - 1792 - 8 < 248 := by omega
  by_cases h3 : j.val < 5120
  · have h3' : j.val - 2048 < 3072 := by omega
    simp only [h0, h1, h1', h2, h2', h3, h3', dite_true, dite_false]
  · have h3' : ¬j.val - 2048 < 3072 := by omega
    simp only [h0, h1, h1', h2, h2', h3, h3', dite_false]

theorem res_at (m : (ℓ : Loc nD τ sig) → Buf (Elt Ideal) ℓ) (c : Dev nD) (n : Fin 16384) (j : Fin 8192) :
    res_main_v20 m c (ix2 n j) = colAt (dotAt (m ((c.tc : Thread nD τ).loc main_arg0)) (m ((c.tc : Thread nD τ).loc main_arg1))
      (m ((c.tc : Thread nD τ).loc main_arg2)) n) j := by
  unfold res_main_v20
  generalize m ((c.tc : Thread nD τ).loc main_arg0) = x
  generalize m ((c.tc : Thread nD τ).loc main_arg1) = g
  generalize m ((c.tc : Thread nD τ).loc main_arg2) = w
  pointwise
  exact colAt_eq (dotAt x g w n) j

end Cert.ProjRefIdeal.Ref
-- ==== Proof.ProjHost.lean ====
module

public import proofs.«01_k».proof.Proof.ProjRef
public import proofs.«01_k».proof.Proof.Gen.ProjIdeal.Value
public import Idealize.ShloMosaic.Lib.StableHlo.ReadAt

/-! The arrays the projection's kernel reads, of the arguments: the host's reshapes, and the weights'
columns laid out. -/

@[expose] public section

set_option maxRecDepth 16384

noncomputable section

namespace Cert.ProjIdeal.Host

open Idealize.ShloMosaic Idealize.SL.Sem Cert.ProjIdeal Cert.ProjIdeal.Gen Cert.ProjRefIdeal.Ref

variable (m : (ℓ : Loc nD τ sig) → Buf (Elt Ideal) ℓ) (c : Dev nD)

theorem rows_at (n : Fin 16384) (k : Fin 1024) : (V m c main_v7 : Vec Ideal S16384x1024 .f32) (ix2 n k)
    = (m ((c.tc : Thread nD τ).loc main_arg0) : Vec Ideal S4x4096x1024 .f32) (ix3 ⟨n.val / 4096, by omega⟩ ⟨n.val % 4096, by omega⟩ k) := by
  unfold V
  after_reads_at
theorem scales_at (k : Fin 1024) : (V m c main_v8 : Vec Ideal S1x1024 .f32) (ix2 0 k)
    = (m ((c.tc : Thread nD τ).loc main_arg1) : Vec Ideal S1024 .f32) (ix1 k) := by
  unfold V
  after_reads_at

/-- A buffer of the host's before the columns are laid out. -/
abbrev part (b : Ref sig .tc) := StableHlo.upto (hostOps0 (F := Ideal)) (fun b => m (c, b)) 6 (Proc.devRef .tc b)

theorem part_0 (k : Fin 1024) (j : Fin 1792) : (part m c main_v0 : Vec Ideal S1024x1792 .f32) (ix2 k j)
    = (m ((c.tc : Thread nD τ).loc main_arg2) : Vec Ideal S1024x7944 .f32) (ix2 k ⟨3080 + j.val, by omega⟩) := by
  unfold part
  after_reads_at
theorem part_1 (k : Fin 1024) (j : Fin 8) : (part m c main_v1 : Vec Ideal S1024x8 .f32) (ix2 k j)
    = (m ((c.tc : Thread nD τ).loc main_arg2) : Vec Ideal S1024x7944 .f32) (ix2 k ⟨3072 + j.val, by omega⟩) := by
  unfold part
  after_reads_at
theorem part_2 (k : Fin 1024) (j : Fin 248) : (part m c main_v2 : Vec Ideal S1024x248 .f32) (ix2 k j) = (0 : EReal) := by
  unfold part
  after_reads_at
theorem part_3 (k : Fin 1024) (j : Fin 3072) : (part m c main_v3 : Vec Ideal S1024x3072 .f32) (ix2 k j)
    = (m ((c.tc : Thread nD τ).loc main_arg2) : Vec Ideal S1024x7944 .f32) (ix2 k ⟨j.val, by omega⟩) := by
  unfold part
  after_reads_at
theorem part_4 (k : Fin 1024) (j : Fin 3072) : (part m c main_v4 : Vec Ideal S1024x3072 .f32) (ix2 k j)
    = (m ((c.tc : Thread nD τ).loc main_arg2) : Vec Ideal S1024x7944 .f32) (ix2 k ⟨4872 + j.val, by omega⟩) := by
  unfold part
  after_reads_at

theorem cols_at (k : Fin 1024) (j : Fin 8192) : (V m c main_v6 : Vec Ideal S1024x8192 .bf16) (ix2 k j)
    = colAt (fun i => (m ((c.tc : Thread nD τ).loc main_arg2) : Vec Ideal S1024x7944 .f32) (ix2 k i)) j := by
  refine Eq.trans ?_ (colAt_eq _ j)
  unfold V
  after_reads_at
  refine dite_congr rfl (fun _ => part_0 m c k _) fun _ => dite_congr rfl (fun _ => part_1 m c k _) fun _ =>
    dite_congr rfl (fun _ => part_2 m c k _) fun _ => dite_congr rfl (fun _ => part_3 m c k _) fun _ => part_4 m c k _

/-- The product's column, of the weights' columns laid out, is the weights' product's column laid out. -/
theorem sum_colAt (a : Fin 1024 → EReal) (w : Fin 1024 → Fin 7944 → EReal) (j : Fin 8192) :
    ∑ k, a k * colAt (w k) j = colAt (fun i => ∑ k, a k * w k i) j := by
  unfold colAt
  by_cases h0 : j.val < 1792
  · simp only [h0, dite_true]
  by_cases h1 : j.val < 1800
  · simp only [h0, h1, dite_true, dite_false]
  by_cases h2 : j.val < 2048
  · simp only [h0, h1, h2, dite_true, dite_false, mul_zero, Finset.sum_const_zero]
  by_cases h3 : j.val < 5120
  · simp only [h0, h1, h2, h3, dite_true, dite_false]
  · simp only [h0, h1, h2, h3, dite_false]

end Cert.ProjIdeal.Host
-- ==== Proof.ProjPoint.lean ====
module

public import proofs.«01_k».proof.Proof.Rows
public import proofs.«01_k».proof.Proof.Gen.ProjIdeal.Value
public import Idealize.ShloMosaic.Lib.Pointwise
public import Idealize.ShloMosaic.Lib.VecWindow
public import Idealize.ShloMosaic.Lib.Writes

/-! The projection's two payloads at an index, and what a point stores of them. -/

@[expose] public section

set_option maxRecDepth 16384

noncomputable section

namespace Cert.ProjIdeal.Point

open Idealize.ShloMosaic Idealize.SL.Sem Cert.ProjIdeal Cert.ProjIdeal.Gen Cert.Rows

/-- The normalised block, an element. -/
theorem norm_at (x : Vec Ideal S1024x1024 .f32) (g : Vec Ideal S1x1024 .f32) (r k : Fin 1024) :
    k0_pay1 x g (ix2 r k) = normRow (fun j => x (ix2 r j)) (fun j => g (ix2 0 j)) k := by
  pointwise [k0_pay1]
  rfl

/-- A block's product with a block of columns, an element. -/
theorem prod_at (xn : Vec Ideal S1024x1024 .bf16) (w : Vec Ideal S1024x2048 .bf16) (r : Fin 1024) (l : Fin 2048) :
    k0_pay2 xn w (ix2 r l) = ∑ k, xn (ix2 r k) * w (ix2 k l) := by
  pointwise [k0_pay2]

/-! ## What a point stores -/

section Stores

variable {F : FTy → Type} [FloatOps F]
variable (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x2048 .bf16) (harg4 : arg4.IsWhole)
    (arg5 : Memref sig .tc .vmem S1024x2048 .f32) (harg5 : arg5.IsWhole) (arg6 : Memref sig .tc .vmem S1024x1024 .bf16) (harg6 : arg6.IsWhole)
    (x0 : Vec F S1024x1024 .f32) (x1 : Vec F S1x1024 .f32) (x2 : Vec F S1024x2048 .bf16) (xs0 : Vec F S1024x1024 .bf16)

/-- The loads of a point, each of a whole buffer. -/
def ldX : Vec F S1024x1024 .f32 :=
  arg2.view.readAt (Elt F) (Rect.unit (s := S1024x1024) ![0, 0] S1024x1024.size inb_S1024x1024_S1024x1024_0_0).toLoadRect (harg2.unread x0)
def ldG : Vec F S1x1024 .f32 :=
  arg3.view.readAt (Elt F) (Rect.unit (s := S1x1024) ![0, 0] S1x1024.size inb_S1x1024_S1x1024_0_0).toLoadRect (harg3.unread x1)
def ldW : Vec F S1024x2048 .bf16 :=
  arg4.view.readAt (Elt F) (Rect.unit (s := S1024x2048) ![0, 0] S1024x2048.size inb_S1024x2048_S1024x2048_0_0).toLoadRect (harg4.unread x2)
def ldN (f : arg6.view.ty.Contents (Elt F)) : Vec F S1024x1024 .bf16 :=
  arg6.view.readAt (Elt F) (Rect.unit (s := S1024x1024) ![0, 0] S1024x1024.size inb_S1024x1024_S1024x1024_0_0).toLoadRect f

theorem ldX_eq : ldX arg2 harg2 x0 = x0 := by
  unfold ldX
  rw [View.readAt_full]
  exact harg2.read_unread x0
theorem ldG_eq : ldG arg3 harg3 x1 = x1 := by
  unfold ldG
  rw [View.readAt_full]
  exact harg3.read_unread x1
theorem ldW_eq : ldW arg4 harg4 x2 = x2 := by
  unfold ldW
  rw [View.readAt_full]
  exact harg4.read_unread x2
theorem ldN_eq (f : arg6.view.ty.Contents (Elt F)) : ldN arg6 f = arg6.view.read (Elt F) f := by
  unfold ldN
  rw [View.readAt_full]

/-- The store of the block of results. -/
def outPiece (y : FVec F S1024x2048 .f32) : List (View.Piece (Elt F) S1024x2048 .f32) :=
  [⟨Rect.unit (s := S1024x2048) ![0, 0] S1024x2048.size inb_S1024x2048_S1024x2048_0_0, y⟩]
/-- The store of the normalised rows. -/
def rowsPiece (y : FVec F S1024x1024 .bf16) : List (View.Piece (Elt F) S1024x1024 .bf16) :=
  [⟨Rect.unit (s := S1024x1024) ![0, 0] S1024x1024.size inb_S1024x1024_S1024x1024_0_0, y⟩]

theorem stores_A_rows (hc0 : cond0_0 i) : (kernelRun0_A c i arg2 harg2 arg3 harg3 arg4 harg4 arg5 harg5 arg6 harg6 hc0 x0 x1 x2).2.1
    = rowsPiece (k0_pay1 (ldX arg2 harg2 x0) (ldG arg3 harg3 x1)) := by
  unfold kernelRun0_A
  rfl
theorem stores_A_out (hc0 : cond0_0 i) : (kernelRun0_A c i arg2 harg2 arg3 harg3 arg4 harg4 arg5 harg5 arg6 harg6 hc0 x0 x1 x2).1
    = outPiece (k0_pay2 (ldN arg6 (arg6.view.writes (Elt F) arg6.view.junk (rowsPiece (k0_pay1 (ldX arg2 harg2 x0) (ldG arg3 harg3 x1)))))
        (ldW arg4 harg4 x2)) := by
  unfold kernelRun0_A
  rfl
theorem stores_B_out (hc0 : ¬cond0_0 i) : (kernelRun0_B c i arg2 harg2 arg3 harg3 arg4 harg4 arg5 harg5 arg6 harg6 hc0 x0 x1 x2 xs0).1
    = outPiece (k0_pay2 (ldN arg6 (harg6.unread xs0)) (ldW arg4 harg4 x2)) := by
  unfold kernelRun0_B
  rfl

/-- A row tile's first point leaves the normalised rows in the scratch. -/
theorem rows_A (hc0 : cond0_0 i) : sout0_A_0 c i arg2 harg2 arg3 harg3 arg4 harg4 arg5 harg5 arg6 harg6 hc0 x0 x1 x2 = k0_pay1 x0 x1 := by
  unfold sout0_A_0
  rw [stores_A_rows, ldX_eq, ldG_eq]
  exact View.read_writes_full _ _ _ _ _
theorem out_A (hc0 : cond0_0 i) : out0_A_3 c i arg2 harg2 arg3 harg3 arg4 harg4 arg5 harg5 arg6 harg6 hc0 x0 x1 x2 = k0_pay2 (k0_pay1 x0 x1) x2 := by
  unfold out0_A_3
  have e : arg6.view.read (Elt F) (arg6.view.writes (Elt F) arg6.view.junk (rowsPiece (k0_pay1 x0 x1))) = k0_pay1 x0 x1 :=
    View.read_writes_full _ _ _ _ _
  rw [stores_A_out, ldX_eq, ldG_eq, ldW_eq, ldN_eq, e]
  exact View.read_writes_full _ _ _ _ _
theorem out_B (hc0 : ¬cond0_0 i) : out0_B_3 c i arg2 harg2 arg3 harg3 arg4 harg4 arg5 harg5 arg6 harg6 hc0 x0 x1 x2 xs0 = k0_pay2 xs0 x2 := by
  unfold out0_B_3
  rw [stores_B_out, ldW_eq, ldN_eq, harg6.read_unread]
  exact View.read_writes_full _ _ _ _ _

end Stores

end Cert.ProjIdeal.Point
-- ==== Proof.ProjSweep.lean ====
module

public import proofs.«01_k».proof.Proof.ProjPoint

/-! The projection's kernel, element by element: a row tile is normalised at its first point, and the
scratch keeps it for the tile's four blocks of columns. -/

@[expose] public section

set_option maxRecDepth 16384

noncomputable section

namespace Cert.ProjIdeal.Sweep

open Idealize.ShloMosaic Idealize.SL.Sem Cert.ProjIdeal Cert.ProjIdeal.Gen Cert.ProjIdeal.Value Cert.ProjIdeal.Point
open Cert.Rows

/-! ## The blocks of the arguments -/

variable (m : (ℓ : Loc nD τ sig) → Buf (Elt Ideal) ℓ) (c : Dev nD)

theorem points : cfg0.N = 64 := N_0

/-- Where the windows of the arguments stand. -/
theorem index_in : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4) :=
  (by decide +kernel : ∀ t : Fin grid0.N, _)

/-- The three arrays the region reads: the tokens' rows, the scales, the columns laid out. -/
def X : Vec Ideal S16384x1024 .f32 := V m c main_v7
def G : Vec Ideal S1x1024 .f32 := V m c main_v8
def W : Vec Ideal S1024x8192 .bf16 := V m c main_v6

theorem iblk_0 (t : Fin cfg0.N) (r k : Fin 1024) (h : 1024 * (t.val / 4) + r.val < 16384) :
    (iblk m c 0 t : Vec Ideal S1024x1024 .f32) (ix2 r k) = X m c (ix2 ⟨1024 * (t.val / 4) + r.val, h⟩ k) := by
  obtain ⟨i0, i1⟩ := (index_in t).1
  refine congrArg (X m c) ?_
  funext a
  match a with
  | ⟨0, _⟩ => exact Fin.ext ((congrArg (· * 1024 + 1 * r.val) i0).trans (by show _ = 1024 * (t.val / 4) + r.val; omega))
  | ⟨1, _⟩ => exact Fin.ext ((congrArg (· * 1024 + 1 * k.val) i1).trans (by show _ = k.val; omega))

theorem iblk_1 (t : Fin cfg0.N) (k : Fin 1024) : (iblk m c 1 t : Vec Ideal S1x1024 .f32) (ix2 0 k) = G m c (ix2 0 k) := by
  obtain ⟨i0, i1⟩ := (index_in t).2.1
  refine congrArg (G m c) ?_
  funext a
  match a with
  | ⟨0, _⟩ => exact Fin.ext ((congrArg (· * 1 + 1 * 0) i0).trans rfl)
  | ⟨1, _⟩ => exact Fin.ext ((congrArg (· * 1024 + 1 * k.val) i1).trans (by show _ = k.val; omega))

theorem iblk_2 (t : Fin cfg0.N) (k : Fin 1024) (l : Fin 2048) (h : 2048 * (t.val % 4) + l.val < 8192) :
    (iblk m c 2 t : Vec Ideal S1024x2048 .bf16) (ix2 k l) = W m c (ix2 k ⟨2048 * (t.val % 4) + l.val, h⟩) := by
  obtain ⟨i0, i1⟩ := (index_in t).2.2
  refine congrArg (W m c) ?_
  funext a
  match a with
  | ⟨0, _⟩ => exact Fin.ext ((congrArg (· * 1024 + 1 * k.val) i0).trans (by show _ = k.val; omega))
  | ⟨1, _⟩ => exact Fin.ext ((congrArg (· * 2048 + 1 * l.val) i1).trans (by show _ = 2048 * (t.val % 4) + l.val; omega))

/-! ## The sweep -/

/-- A token's normalised row. -/
def rowAt (n : Fin 16384) : Fin 1024 → EReal := normRow (fun j => X m c (ix2 n j)) (fun j => G m c (ix2 0 j))

/-- What stands after point `t`: the tile's normalised rows, and their products with the point's columns. -/
def Good (t : ℕ) (x : Vec Ideal S1024x2048 .f32 × Vec Ideal S1024x1024 .bf16) : Prop :=
  (∀ (r k : Fin 1024) (h : 1024 * (t / 4) + r.val < 16384), x.2 (ix2 r k) = rowAt m c ⟨1024 * (t / 4) + r.val, h⟩ k)
    ∧ ∀ (r : Fin 1024) (l : Fin 2048) (h : 1024 * (t / 4) + r.val < 16384) (h' : 2048 * (t % 4) + l.val < 8192),
      x.1 (ix2 r l) = ∑ k, rowAt m c ⟨1024 * (t / 4) + r.val, h⟩ k * W m c (ix2 k ⟨2048 * (t % 4) + l.val, h'⟩)

theorem norm_pt (t : Fin cfg0.N) (r k : Fin 1024) (h : 1024 * (t.val / 4) + r.val < 16384) :
    (k0_pay1 (iblk m c 0 t) (iblk m c 1 t) : Vec Ideal S1024x1024 .bf16) (ix2 r k) = rowAt m c ⟨1024 * (t.val / 4) + r.val, h⟩ k := by
  refine (norm_at _ _ r k).trans ?_
  unfold rowAt
  exact congrFun (congr (congrArg normRow (funext fun j => iblk_0 m c t r j h)) (funext fun j => iblk_1 m c t j)) k

theorem good_first (t : Fin cfg0.N) (acc) (h0 : t.val % 4 = 0) : Good m c t.val (stAt0 m c t.val t.isLt acc) := by
  rw [stAt0_A m c t acc h0]
  refine ⟨fun r k h => ?_, fun r l h h' => ?_⟩
  · dsimp only
    rw [rows_A]
    exact norm_pt m c t r k h
  · dsimp only
    rw [out_A]
    refine (prod_at _ _ r l).trans (Finset.sum_congr rfl fun k _ => ?_)
    rw [norm_pt m c t r k h, iblk_2 m c t k l h']

theorem good_next (t : Fin cfg0.N) (acc) (h0 : ¬t.val % 4 = 0)
    (hs : ∀ (r k : Fin 1024) (h : 1024 * (t.val / 4) + r.val < 16384), acc.2 (ix2 r k) = rowAt m c ⟨1024 * (t.val / 4) + r.val, h⟩ k) :
    Good m c t.val (stAt0 m c t.val t.isLt acc) := by
  rw [stAt0_B m c t acc h0]
  refine ⟨fun r k h => hs r k h, fun r l h h' => ?_⟩
  dsimp only
  rw [out_B]
  refine (prod_at _ _ r l).trans (Finset.sum_congr rfl fun k _ => ?_)
  rw [hs r k h, iblk_2 m c t k l h']

theorem good : ∀ (t : ℕ) (ht : 0 + t < cfg0.N),
    Good m c t (Pipeline.accAt (fun n h => stAt0 m c n h junk0) (stAt0 m c) 0 t ht)
  | 0, ht => good_first m c ⟨0, by omega⟩ _ rfl
  | t + 1, ht => by
    have ih := good t (by omega)
    rw [Pipeline.accAt_succ]
    have e : 0 + (t + 1) = t + 1 := Nat.zero_add _
    by_cases h0 : (t + 1) % 4 = 0
    · have := good_first m c ⟨t + 1, by omega⟩ (Pipeline.accAt (fun n h => stAt0 m c n h junk0) (stAt0 m c) 0 t (by omega)) h0
      simpa only [e] using this
    · have := good_next m c ⟨t + 1, by omega⟩ (Pipeline.accAt (fun n h => stAt0 m c n h junk0) (stAt0 m c) 0 t (by omega)) h0 (by
        intro r k h
        have h4 : (t + 1) / 4 = t / 4 := by omega
        have h' : 1024 * (t / 4) + r.val < 16384 := by
          dsimp only at h
          omega
        refine (ih.1 r k h').trans ?_
        simp only [h4])
      simpa only [e] using this

/-- The kernel's result: each token's normalised row with each column. -/
theorem G3_eq (n : Fin 16384) (j : Fin 8192) :
    G3 m c (ix2 n j) = ∑ k, rowAt m c n k * W m c (ix2 k j) := by
  have hp : pt3Of (ix2 n j) = 4 * (n.val / 1024) + j.val / 2048 := by
    show 4 * (n.val / 1024 - 0) + 1 * (j.val / 2048 - 0) = _
    omega
  have hlt : pt3Of (ix2 n j) < cfg0.N := by rw [hp, points]; omega
  have hg := (good m c (4 * (n.val / 1024) + j.val / 2048) (by rw [points]; omega)).2 ⟨n.val % 1024, Nat.mod_lt _ (by decide)⟩
    ⟨j.val % 2048, Nat.mod_lt _ (by decide)⟩ (by dsimp only; omega) (by dsimp only; omega)
  unfold G3
  rw [dif_pos hlt, fold0_congr m c _ _ _ (by rw [points]; omega) hp]
  refine Eq.trans (congrArg _ ?_) (hg.trans ?_)
  · funext a
    match a with
    | ⟨0, _⟩ => rfl
    | ⟨1, _⟩ => rfl
  have e1 : (⟨1024 * ((4 * (n.val / 1024) + j.val / 2048) / 4) + n.val % 1024, by omega⟩ : Fin 16384) = n := Fin.ext (by dsimp only; omega)
  have e2 : (⟨2048 * ((4 * (n.val / 1024) + j.val / 2048) % 4) + j.val % 2048, by omega⟩ : Fin 8192) = j := Fin.ext (by dsimp only; omega)
  rw [e1, e2]

end Cert.ProjIdeal.Sweep
-- ==== Proof.ProjClaim.lean ====
module

public import proofs.«01_k».proof.Defs
public import proofs.«01_k».proof.Proof.ProjHost
public import proofs.«01_k».proof.Proof.ProjSweep
public import proofs.«01_k».proof.Proof.Gen.Proj.Frame
public import Idealize.ShloMosaic.Adequacy
public import Idealize.ShloMosaic.Init

/-! The claims about the projection. -/

@[expose] public section

noncomputable section

namespace Cert.Proof.ProjClaim

open Idealize.ShloMosaic Idealize.SL.Sem

theorem frame_proj : letI := Cert.Proj.Gen.facts; Cert.quiescent_Proj := fun m ρ _ => Cert.Proj.Gen.frame m ρ

theorem frame_proj_ideal : letI := Cert.ProjIdeal.Gen.facts; Cert.quiescent_ProjIdeal := fun m ρ _ => Cert.ProjIdeal.Gen.frame m ρ

/-- The reference runs and leaves its arguments alone; it has no semaphore. -/
theorem frame_ref : letI := Cert.ProjRefIdeal.Gen.facts; Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

variable (m : (ℓ : Loc Cert.ProjIdeal.nD Cert.ProjIdeal.τ Cert.ProjIdeal.sig) → Buf (Elt Ideal) ℓ)
variable (m' : (ℓ : Loc Cert.ProjRefIdeal.nD Cert.ProjRefIdeal.τ Cert.ProjRefIdeal.sig) → Buf (Elt Ideal) ℓ)

/-- Of the same arguments, every element of the projection is the same. -/
theorem results_eq (c : Dev Cert.ProjIdeal.nD)
    (h0 : m' ((c.tc : Thread Cert.ProjRefIdeal.nD Cert.ProjRefIdeal.τ).loc Cert.ProjRefIdeal.main_arg0)
      = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1)
      = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2)
      = m ((c.tc : Thread Cert.ProjIdeal.nD Cert.ProjIdeal.τ).loc Cert.ProjIdeal.main_arg2)) :
    Cert.ProjRefIdeal.Value.res_main_v20 m' c = Cert.ProjIdeal.Value.G3 m c := by
  funext i
  obtain ⟨n, j, rfl⟩ : ∃ n j, i = ix2 n j := ⟨_, _, eq_ix2 i⟩
  refine (Cert.ProjRefIdeal.Ref.res_at m' c n j).trans (Eq.trans ?_ (Cert.ProjIdeal.Sweep.G3_eq m c n j).symm)
  rw [h0, h1, h2]
  refine Eq.trans ?_ ((Finset.sum_congr rfl fun k _ => congr (congrArg (fun a b : EReal => a * b)
    (congrFun (congr (congrArg Cert.Rows.normRow (funext fun l => Cert.ProjIdeal.Host.rows_at m c n l))
      (funext fun l => Cert.ProjIdeal.Host.scales_at m c l)) k))
    (Cert.ProjIdeal.Host.cols_at m c k j)).trans (Cert.ProjIdeal.Host.sum_colAt _ _ j)).symm
  rfl

theorem algebraic_proj : letI := Cert.ProjIdeal.Gen.facts; letI := Cert.ProjRefIdeal.Gen.facts
    Cert.algebraic_ProjIdeal_ProjRefIdeal := by
  intro m g m' g' _ hargs
  refine ⟨fun c => Cert.ProjIdeal.Value.G3 m c, Cert.ProjIdeal.Value.run (F := Ideal) m g, ?_⟩
  refine (θ_run _ _ _).mono (fun _ r c => ?_) (Cert.ProjRefIdeal.Value.run (F := Ideal) m' g')
  obtain ⟨g0, g1, g2⟩ := hargs c
  exact ⟨(r c).1.trans (results_eq m m' c g0 g1 g2), (r c).2⟩

end Cert.Proof.ProjClaim
-- ==== Proof.FfnRows.lean ====
module

public import proofs.«01_k».proof.Proof.Rows

/-! The feed-forward layer of a token, on the extended reals: the gate's convolution over three tokens,
the gated values, and the output's row. -/

@[expose] public section

noncomputable section

namespace Cert.FfnRows

open Idealize.ShloMosaic Cert.Rows

/-- A token's normalised row with a column. -/
def upDot (x g w : Fin 1024 → EReal) : EReal := ∑ k, normRow x g k * w k

/-- Three tokens' values weighed, the earliest first, onto the bias. -/
def convOf (b w0 w1 w2 u0 u1 u2 : EReal) : EReal := b + u0 * w0 + u1 * w1 + u2 * w2

/-- A value times its sigmoid. -/
def silu (x : EReal) : EReal := x * Ideal.div 1 (1 + Ideal.exp (-x))

/-- The value `d` tokens before token `t` of a sequence; zero before its start. -/
def before (u : ℕ → EReal) (d t : ℕ) : EReal := if t < d then 0 else u (t - d)

/-- The gated value of token `t`, of its sequence's gate values `u` and its own other value `v`. -/
def gated (b w0 w1 w2 : EReal) (u : ℕ → EReal) (v : EReal) (t : ℕ) : EReal :=
  silu (convOf b w0 w1 w2 (before u 2 t) (before u 1 t) (u t)) * v

/-- The same convolution from the latest token on. -/
theorem convOf_rev (b w0 w1 w2 u0 u1 u2 : EReal) : b + w2 * u2 + w1 * u1 + w0 * u0 = convOf b w0 w1 w2 u0 u1 u2 := by
  unfold convOf
  rw [mul_comm w2, mul_comm w1, mul_comm w0, add_right_comm b, add_right_comm (b + u1 * w1), add_right_comm b]

/-! ## The layer, of its arguments -/

variable (x : Fin 4 → Fin 4096 → Fin 1024 → EReal) (g : Fin 1024 → EReal) (w : Fin 1024 → Fin 5632 → EReal) (cw : Fin 3 → Fin 2816 → EReal)
    (cb : Fin 2816 → EReal) (wd : Fin 2816 → Fin 1024 → EReal) (gf : Fin 1024 → EReal)

/-- The projection up of token `t` of sequence `b` (a number past the sequence taken into it). -/
def upOf (b : Fin 4) (j : Fin 5632) (t : ℕ) : EReal := upDot (x b ⟨t % 4096, Nat.mod_lt _ (by decide)⟩) g (fun k => w k j)
/-- The gated value. -/
def hidOf (b : Fin 4) (j : Fin 2816) (t : ℕ) : EReal :=
  gated (cb j) (cw 0 j) (cw 1 j) (cw 2 j) (upOf x g w b ⟨j.val, by omega⟩) (upOf x g w b ⟨2816 + j.val, by omega⟩ t) t
/-- The token's row after the projection down. -/
def midOf (b : Fin 4) (t : Fin 4096) (l : Fin 1024) : EReal := x b t l + ∑ j, hidOf x g w cw cb b j t.val * wd j l
/-- The first result: each token's row, normalised. -/
def outOf (n : Fin 16384) (l : Fin 1024) : EReal :=
  normRow (midOf x g w cw cb wd ⟨n.val / 4096, by omega⟩ ⟨n.val % 4096, by omega⟩) gf l
/-- The second result: of each tile of 512 tokens the gate's last 8 rows. -/
def tailRowOf (i : Fin 32) (r : Fin 8) (j : Fin 2816) : EReal :=
  upOf x g w ⟨i.val / 8, by omega⟩ ⟨j.val, by omega⟩ (i.val % 8 * 512 + (504 + r.val))

end Cert.FfnRows
-- ==== Proof.FfnRef.lean ====
module

public import proofs.«01_k».proof.Proof.FfnRows
public import proofs.«01_k».proof.Proof.Gen.FfnRefIdeal.Run
public import Idealize.ShloMosaic.Lib.Pointwise

/-! The reference's feed-forward layer at an index: its arrays one after the other. -/

@[expose] public section

-- the arrays' axes have thousands of elements
set_option maxRecDepth 16384

noncomputable section

namespace Cert.FfnRefIdeal.Ref

open Idealize.ShloMosaic Idealize.SL.Sem Cert.FfnRefIdeal Cert.FfnRefIdeal.Gen Cert.FfnRefIdeal.Value Cert.Rows Cert.FfnRows

/-- The norm of an array's rows. -/
def normV (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf x x) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))
/-- The projection up. -/
def upV (x : FVec Ideal S4x4096x1024 .f32) (g : FVec Ideal S1024 .f32) (w : FVec Ideal S1024x5632 .f32) : FVec Ideal S4x4096x5632 .f32 :=
  Host.dotGeneral dot_S4x4096x1024_S1024x5632_S4x4096x5632_2_0_01_1_n_n none (normV x g) w
/-- Its gate half. -/
def gateV (U : FVec Ideal S4x4096x5632 .f32) : FVec Ideal S4x4096x2816 .f32 :=
  extractStridedSlice S4x4096x2816 ![0, 0, 0] U slices_S4x4096x5632_S4x4096x2816_0_0_0
/-- Two rows of zeros and the gate's rows. -/
def padV (u : FVec Ideal S4x4096x2816 .f32) : FVec Ideal S4x4098x2816 .f32 :=
  concatenate S4x4098x2816 1 [⟨S4x2x2816, (broadcastInDim S4x2x2816 ![] bcast_S_S4x2x2816 (constant S_ .f32 0x00000000#32))⟩,
    ⟨S4x4096x2816, u⟩] concatenates_S4x2x2816_S4x4096x2816_S4x4098x2816_d1
/-- The convolution. -/
def convV (p : FVec Ideal S4x4098x2816 .f32) (cw : FVec Ideal S3x2816 .f32) (cb : FVec Ideal S2816 .f32) : FVec Ideal S4x4096x2816 .f32 :=
  addf (addf (addf (broadcastInDim S4x4096x2816 ![0, 1, 2] bcast_S1x1x2816_S4x4096x2816_0_1_2 (broadcastInDim S1x1x2816 ![2] bcast_S2816_S1x1x2816_2 cb))
    (mulf (extractStridedSlice S4x4096x2816 ![0, 0, 0] p slices_S4x4098x2816_S4x4096x2816_0_0_0) (broadcastInDim S4x4096x2816 ![0, 1, 2] bcast_S1x1x2816_S4x4096x2816_0_1_2
      (broadcastInDim S1x1x2816 ![2] bcast_S2816_S1x1x2816_2 (shapeCast _ (extractStridedSlice S1x2816 ![0, 0] cw slices_S3x2816_S1x2816_0_0) shapeCasts_S1x2816_S2816)))))
    (mulf (extractStridedSlice S4x4096x2816 ![0, 1, 0] p slices_S4x4098x2816_S4x4096x2816_0_1_0) (broadcastInDim S4x4096x2816 ![0, 1, 2] bcast_S1x1x2816_S4x4096x2816_0_1_2
      (broadcastInDim S1x1x2816 ![2] bcast_S2816_S1x1x2816_2 (shapeCast _ (extractStridedSlice S1x2816 ![1, 0] cw slices_S3x2816_S1x2816_1_0) shapeCasts_S1x2816_S2816)))))
    (mulf (extractStridedSlice S4x4096x2816 ![0, 2, 0] p slices_S4x4098x2816_S4x4096x2816_0_2_0) (broadcastInDim S4x4096x2816 ![0, 1, 2] bcast_S1x1x2816_S4x4096x2816_0_1_2
      (broadcastInDim S1x1x2816 ![2] bcast_S2816_S1x1x2816_2 (shapeCast _ (extractStridedSlice S1x2816 ![2, 0] cw slices_S3x2816_S1x2816_2_0) shapeCasts_S1x2816_S2816))))
/-- The gated values. -/
def gatedV (C : FVec Ideal S4x4096x2816 .f32) (U : FVec Ideal S4x4096x5632 .f32) : FVec Ideal S4x4096x2816 .f32 :=
  mulf (mulf C (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf C)))))
    (extractStridedSlice S4x4096x2816 ![0, 0, 2816] U slices_S4x4096x5632_S4x4096x2816_0_0_2816)
/-- The projection down, onto the input. -/
def midV (x : FVec Ideal S4x4096x1024 .f32) (H : FVec Ideal S4x4096x2816 .f32) (wd : FVec Ideal S2816x1024 .f32) : FVec Ideal S4x4096x1024 .f32 :=
  addf x (Host.dotGeneral dot_S4x4096x2816_S2816x1024_S4x4096x1024_2_0_01_1_n_n none H wd)

section At

variable (b : Fin 4) (t : Fin 4096)

theorem normV_at (x : FVec Ideal S4x4096x1024 .f32) (g : FVec Ideal S1024 .f32) (k : Fin 1024) :
    normV x g (ix3 b t k) = normRow (fun l => x (ix3 b t l)) (fun l => g (ix1 l)) k := by
  pointwise [normV]
  rfl
theorem upV_at (x : FVec Ideal S4x4096x1024 .f32) (g : FVec Ideal S1024 .f32) (w : FVec Ideal S1024x5632 .f32) (j : Fin 5632) :
    upV x g w (ix3 b t j) = upDot (fun l => x (ix3 b t l)) (fun l => g (ix1 l)) (fun l => w (ix2 l j)) := by
  have h : upV x g w (ix3 b t j) = ∑ k, normV x g (ix3 b t k) * w (ix2 k j) := by
    unfold upV
    generalize normV x g = n
    pointwise
  refine h.trans (Finset.sum_congr rfl fun k _ => ?_)
  rw [normV_at]
theorem gateV_at (U : FVec Ideal S4x4096x5632 .f32) (j : Fin 2816) : gateV U (ix3 b t j) = U (ix3 b t ⟨j.val, by omega⟩) := by
  pointwise [gateV]
theorem padV_at (u : FVec Ideal S4x4096x2816 .f32) (t : Fin 4098) (j : Fin 2816) :
    padV u (ix3 b t j) = if h : t.val < 2 then (0 : EReal) else u (ix3 b ⟨t.val - 2, by omega⟩ j) := by
  pointwise [padV]
theorem convV_at (p : FVec Ideal S4x4098x2816 .f32) (cw : FVec Ideal S3x2816 .f32) (cb : FVec Ideal S2816 .f32) (j : Fin 2816) :
    convV p cw cb (ix3 b t j) = convOf (cb (ix1 j)) (cw (ix2 0 j)) (cw (ix2 1 j)) (cw (ix2 2 j))
      (p (ix3 b ⟨t.val, by omega⟩ j)) (p (ix3 b ⟨1 + t.val, by omega⟩ j)) (p (ix3 b ⟨2 + t.val, by omega⟩ j)) := by
  pointwise [convV]
  rfl
theorem gatedV_at (C : FVec Ideal S4x4096x2816 .f32) (U : FVec Ideal S4x4096x5632 .f32) (j : Fin 2816) :
    gatedV C U (ix3 b t j) = silu (C (ix3 b t j)) * U (ix3 b t ⟨2816 + j.val, by omega⟩) := by
  pointwise [gatedV]
  rfl
theorem midV_at (x : FVec Ideal S4x4096x1024 .f32) (H : FVec Ideal S4x4096x2816 .f32) (wd : FVec Ideal S2816x1024 .f32) (l : Fin 1024) :
    midV x H wd (ix3 b t l) = x (ix3 b t l) + ∑ j, H (ix3 b t j) * wd (ix2 j l) := by
  pointwise [midV]

end At

/-! ## The results -/

section Results

variable (x : FVec Ideal S4x4096x1024 .f32) (g : FVec Ideal S1024 .f32) (w : FVec Ideal S1024x5632 .f32) (cw : FVec Ideal S3x2816 .f32)
    (cb : FVec Ideal S2816 .f32) (wd : FVec Ideal S2816x1024 .f32) (gf : FVec Ideal S1024 .f32)

/-- An array as a function of its coordinates. -/
abbrev f1 {a : ℕ} (v : FVec Ideal ⟨1, ![a]⟩ .f32) : Fin a → EReal := fun i => v (ix1 i)
abbrev f2 {a b : ℕ} (v : FVec Ideal ⟨2, ![a, b]⟩ .f32) : Fin a → Fin b → EReal := fun i j => v (ix2 i j)
abbrev f3 {a b c : ℕ} (v : FVec Ideal ⟨3, ![a, b, c]⟩ .f32) : Fin a → Fin b → Fin c → EReal := fun i j k => v (ix3 i j k)

theorem up_eq (b : Fin 4) (j : Fin 5632) (t : Fin 4096) : upV x g w (ix3 b t j) = upOf (f3 x) (f1 g) (f2 w) b j t.val := by
  have e : (⟨t.val % 4096, Nat.mod_lt _ (by decide)⟩ : Fin 4096) = t := Fin.ext (Nat.mod_eq_of_lt t.isLt)
  unfold upOf
  rw [e, upV_at]

theorem pad_eq (b : Fin 4) (j : Fin 2816) (t : Fin 4096) (k : ℕ) (hk : k ≤ 2) :
    padV (gateV (upV x g w)) (ix3 b ⟨k + t.val, by omega⟩ j) = before (upOf (f3 x) (f1 g) (f2 w) b ⟨j.val, by omega⟩) (2 - k) t.val := by
  rw [padV_at]
  unfold before
  by_cases h : t.val < 2 - k
  · rw [dif_pos (by dsimp only; omega), if_pos h]
  · rw [dif_neg (by dsimp only; omega), if_neg h, gateV_at, up_eq]
    refine congrArg _ ?_
    dsimp only
    omega

theorem hid_eq (b : Fin 4) (j : Fin 2816) (t : Fin 4096) :
    gatedV (convV (padV (gateV (upV x g w))) cw cb) (upV x g w) (ix3 b t j) = hidOf (f3 x) (f1 g) (f2 w) (f2 cw) (f1 cb) b j t.val := by
  rw [gatedV_at, convV_at, up_eq]
  unfold hidOf gated
  have e0 := pad_eq x g w b j t 0 (by decide)
  have e1 := pad_eq x g w b j t 1 (by decide)
  have e2 := pad_eq x g w b j t 2 (by decide)
  simp only [Nat.zero_add] at e0
  rw [e0, e1, e2]
  have e3 : before (upOf (f3 x) (f1 g) (f2 w) b ⟨j.val, by omega⟩) (2 - 2) t.val = upOf (f3 x) (f1 g) (f2 w) b ⟨j.val, by omega⟩ t.val := by
    unfold before
    rw [if_neg (by omega)]
    rfl
  rw [e3]

theorem mid_eq (b : Fin 4) (t : Fin 4096) (l : Fin 1024) :
    midV x (gatedV (convV (padV (gateV (upV x g w))) cw cb) (upV x g w)) wd (ix3 b t l) = midOf (f3 x) (f1 g) (f2 w) (f2 cw) (f1 cb) (f2 wd) b t l := by
  rw [midV_at]
  unfold midOf
  simp only [hid_eq]

/-- The first result's term of the arguments. -/
def outV : FVec Ideal S16384x1024 .f32 :=
  shapeCast _ (normV (midV x (gatedV (convV (padV (gateV (upV x g w))) cw cb) (upV x g w)) wd) gf) shapeCasts_S4x4096x1024_S16384x1024
theorem outV_at (n : Fin 16384) (l : Fin 1024) : outV x g w cw cb wd gf (ix2 n l) = outOf (f3 x) (f1 g) (f2 w) (f2 cw) (f1 cb) (f2 wd) (f1 gf) n l := by
  have h : outV x g w cw cb wd gf (ix2 n l)
      = normV (midV x (gatedV (convV (padV (gateV (upV x g w))) cw cb) (upV x g w)) wd) gf (ix3 ⟨n.val / 4096, by omega⟩ ⟨n.val % 4096, by omega⟩ l) := by
    unfold outV
    generalize normV (midV x (gatedV (convV (padV (gateV (upV x g w))) cw cb) (upV x g w)) wd) gf = v
    pointwise
  rw [h, normV_at]
  simp only [mid_eq]
  rfl

/-- The second result's term. -/
def tailV : FVec Ideal S32x8x2816 .f32 :=
  extractStridedSlice S32x8x2816 ![0, 504, 0] (shapeCast _ (gateV (upV x g w)) shapeCasts_S4x4096x2816_S32x512x2816) slices_S32x512x2816_S32x8x2816_0_504_0
theorem tailV_at (i : Fin 32) (r : Fin 8) (j : Fin 2816) : tailV x g w (ix3 i r j) = tailRowOf (f3 x) (f1 g) (f2 w) i r j := by
  have h : tailV x g w (ix3 i r j) = gateV (upV x g w) (ix3 ⟨i.val / 8, by omega⟩ ⟨i.val % 8 * 512 + (504 + r.val), by omega⟩ j) := by
    unfold tailV
    generalize gateV (upV x g w) = v
    pointwise
  rw [h, gateV_at, up_eq]
  rfl

end Results

theorem res_eq (m : (ℓ : Loc nD τ sig) → Buf (Elt Ideal) ℓ) (c : Dev nD) : res_main_v58 m c
    = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = outV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_v60) = tailV (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq m c), (h c).2.1.trans rfl, (h c).2.2⟩) (run (F := Ideal) m ρ)

end Cert.FfnRefIdeal.Ref
-- ==== Proof.FfnExt.lean ====
module

public import proofs.«01_k».proof.Proof.Gen.FfnIdeal.Frame
public import proofs.«01_k».proof.Proof.Gen.FfnIdeal.Skeleton
public import Idealize.ShloMosaic.Lib.Pointwise
public import Idealize.ShloMosaic.Lib.VecWindow
public import Idealize.ShloMosaic.Lib.Writes

/-! The feed-forward kernel's buffer of gate rows. One half of the columns has a slab of it: 8 rows of
history, then the tile's 512 rows. What a point reads of a slab after its two stores, over any float values. -/

@[expose] public section

set_option maxRecDepth 16384

noncomputable section

namespace Cert.FfnIdeal.Body

open Idealize.ShloMosaic Idealize.SL.Sem Cert.FfnIdeal Cert.FfnIdeal.Gen

variable {F : FTy → Type} [FloatOps F]

/-- A row of the slab: the history's rows first, then the tile's. -/
def rowOf (hist : Vec F S1x8x1408 .f32) (up : Vec F S1x512x1408 .f32) (r : ℕ) (l : Fin 1408) : F .f32 :=
  if h : r < 8 then hist (ix3 0 ⟨r, h⟩ l) else up (ix3 0 ⟨(r - 8) % 512, Nat.mod_lt _ (by decide)⟩ l)

/-- The 512 rows from row `k` on. -/
def winAt (k : ℕ) (hist : Vec F S1x8x1408 .f32) (up : Vec F S1x512x1408 .f32) : Vec F S1x512x1408 .f32 :=
  fun j => rowOf hist up (k + (j 1).val) (j 2)
/-- The last 8 rows. -/
def lastRows (hist : Vec F S1x8x1408 .f32) (up : Vec F S1x512x1408 .f32) : Vec F S1x8x1408 .f32 :=
  fun j => rowOf hist up (512 + (j 1).val) (j 2)
/-- The last 8 rows of a slab of a whole buffer. -/
def slabRows (e : Vec F S2x528x1408 .f32) (p : Fin 2) : Vec F S1x8x1408 .f32 :=
  fun j => e (ix3 p ⟨512 + (j 1).val, by have : (j 1).val < 8 := (j 1).isLt; omega⟩ (j 2))
/-- A row of the convolution's weights. -/
def wRow (x : Vec F S3x1408 .f32) (k : Fin 3) : Vec F S1x1408 .f32 := fun j => x (ix2 k (j 1))

section Slab

variable (v : View sig .tc .vmem S2x528x1408 .f32) (f : v.ty.Contents (Elt F)) (p : ℕ)
    {oh o4 : Fin 3 → ℕ} (hh : oh = ![p, 0, 0]) (h4 : o4 = ![p, 8, 0])
    (inbh : ∀ a, oh a + S1x8x1408.size a ≤ S2x528x1408.size a) (inb4 : ∀ a, o4 a + S1x512x1408.size a ≤ S2x528x1408.size a)
    (hist : Vec F S1x8x1408 .f32) (up : Vec F S1x512x1408 .f32)

/-- The two stores of a point, the last first. -/
def slabPieces : List (View.Piece (Elt F) S2x528x1408 .f32) :=
  [⟨Rect.unit (s := S2x528x1408) o4 S1x512x1408.size inb4, up⟩, ⟨Rect.unit (s := S2x528x1408) oh S1x8x1408.size inbh, hist⟩]

include hh h4 in
/-- After them a row of the slab is as `rowOf` says. -/
theorem read_rows (y : S2x528x1408.Idx) (hy0 : (y 0).val = p) (hy1 : (y 1).val < 520) :
    v.read (Elt F) (v.writes (Elt F) f (slabPieces inbh inb4 hist up)) y = rowOf hist up (y 1).val (y 2) := by
  subst hh h4
  unfold slabPieces rowOf
  by_cases hr : (y 1).val < 8
  · rw [dif_pos hr]
    refine (View.read_writes_cons_miss_of_axis v f _ _ y 1 8 512 rfl rfl rfl (.inl hr)).trans
      (View.read_writes_cons_hit_of_coords v f _ _ _ _ y fun a => ?_)
    match a with
    | ⟨0, _⟩ => exact hy0.trans (by show p = p + 1 * 0; omega)
    | ⟨1, _⟩ => show (y 1).val = 0 + 1 * (y 1).val; omega
    | ⟨2, _⟩ => show (y 2).val = 0 + 1 * (y 2).val; omega
  · rw [dif_neg hr]
    refine View.read_writes_cons_hit_of_coords v f _ _ _ _ y fun a => ?_
    match a with
    | ⟨0, _⟩ => exact hy0.trans (by show p = p + 1 * 0; omega)
    | ⟨1, _⟩ => show (y 1).val = 8 + 1 * (((y 1).val - 8) % 512); omega
    | ⟨2, _⟩ => show (y 2).val = 0 + 1 * (y 2).val; omega

include hh h4 in
/-- The other slab is as it was. -/
theorem read_other (y : S2x528x1408.Idx) (hy0 : (y 0).val ≠ p) :
    v.read (Elt F) (v.writes (Elt F) f (slabPieces inbh inb4 hist up)) y = v.read (Elt F) f y := by
  subst hh h4
  unfold slabPieces
  refine (View.read_writes_cons_miss_of_axis v f _ _ y 0 p 1 rfl rfl rfl (by omega)).trans
    (View.read_writes_cons_miss_of_axis v f _ _ y 0 p 1 rfl rfl rfl (by omega))

include hh h4 in
/-- A load of 512 rows from row `k`. -/
theorem load_win {o : Fin 3 → ℕ} (k : ℕ) (ho : o = ![p, k, 0]) (hk : k ≤ 8) (inb : ∀ a, o a + S1x512x1408.size a ≤ S2x528x1408.size a) :
    v.readAt (Elt F) (Rect.unit (s := S2x528x1408) o S1x512x1408.size inb).toLoadRect
      (v.writes (Elt F) f (slabPieces inbh inb4 hist up)) = winAt k hist up := by
  funext j
  subst ho
  have hj : (j 1).val < 512 := (j 1).isLt
  have hj0 : (j 0).val < 1 := (j 0).isLt
  refine (read_rows v f p hh h4 inbh inb4 hist up ((Rect.unit (s := S2x528x1408) ![p, k, 0] S1x512x1408.size inb).emb j)
    (by show p + 1 * (j 0).val = p; omega) (by show k + 1 * (j 1).val < 520; omega)).trans ?_
  have e1 : (((Rect.unit (s := S2x528x1408) ![p, k, 0] S1x512x1408.size inb).emb j) 1).val = k + (j 1).val := by
    show k + 1 * (j 1).val = _
    omega
  have e2 : ((Rect.unit (s := S2x528x1408) ![p, k, 0] S1x512x1408.size inb).emb j) 2 = j 2 := Fin.ext (by
    show 0 + 1 * (j 2).val = _
    omega)
  unfold winAt
  rw [e1, e2]

include hh h4 in
/-- The load of the last 8 rows. -/
theorem load_last {o : Fin 3 → ℕ} (ho : o = ![p, 512, 0]) (inb : ∀ a, o a + S1x8x1408.size a ≤ S2x528x1408.size a) :
    v.readAt (Elt F) (Rect.unit (s := S2x528x1408) o S1x8x1408.size inb).toLoadRect
      (v.writes (Elt F) f (slabPieces inbh inb4 hist up)) = lastRows hist up := by
  funext j
  subst ho
  have hj : (j 1).val < 8 := (j 1).isLt
  have hj0 : (j 0).val < 1 := (j 0).isLt
  refine (read_rows v f p hh h4 inbh inb4 hist up ((Rect.unit (s := S2x528x1408) ![p, 512, 0] S1x8x1408.size inb).emb j)
    (by show p + 1 * (j 0).val = p; omega) (by show 512 + 1 * (j 1).val < 520; omega)).trans ?_
  have e1 : (((Rect.unit (s := S2x528x1408) ![p, 512, 0] S1x8x1408.size inb).emb j) 1).val = 512 + (j 1).val := by
    show 512 + 1 * (j 1).val = _
    omega
  have e2 : ((Rect.unit (s := S2x528x1408) ![p, 512, 0] S1x8x1408.size inb).emb j) 2 = j 2 := Fin.ext (by
    show 0 + 1 * (j 2).val = _
    omega)
  unfold lastRows
  rw [e1, e2]

end Slab

/-- The load of the last 8 rows of a slab before the point's stores. -/
theorem load_before (arg : Memref sig .tc .vmem S2x528x1408 .f32) (h : arg.IsWhole) (e : Vec F S2x528x1408 .f32) (p : Fin 2)
    {o : Fin 3 → ℕ} (ho : o = ![p.val, 512, 0]) (inb : ∀ a, o a + S1x8x1408.size a ≤ S2x528x1408.size a) :
    arg.view.readAt (Elt F) (Rect.unit (s := S2x528x1408) o S1x8x1408.size inb).toLoadRect (h.unread e) = slabRows e p := by
  funext j
  subst ho
  have hj0 : (j 0).val < 1 := (j 0).isLt
  refine (congrFun (h.read_unread e) ((Rect.unit (s := S2x528x1408) ![p.val, 512, 0] S1x8x1408.size inb).emb j)).trans (congrArg e ?_)
  funext a
  match a with
  | ⟨0, _⟩ => exact Fin.ext (by show p.val + 1 * (j 0).val = p.val; omega)
  | ⟨1, _⟩ => exact Fin.ext (by show 512 + 1 * (j 1).val = 512 + (j 1).val; omega)
  | ⟨2, _⟩ => exact Fin.ext (by show 0 + 1 * (j 2).val = (j 2).val; omega)

/-- The load of a row of the convolution's weights. -/
theorem load_row (arg : Memref sig .tc .vmem S3x1408 .f32) (h : arg.IsWhole) (x : Vec F S3x1408 .f32) (k : Fin 3)
    {o : Fin 2 → ℕ} (ho : o = ![k.val, 0]) (inb : ∀ a, o a + S1x1408.size a ≤ S3x1408.size a) :
    arg.view.readAt (Elt F) (Rect.unit (s := S3x1408) o S1x1408.size inb).toLoadRect (h.unread x) = wRow x k := by
  funext j
  subst ho
  have hj0 : (j 0).val < 1 := (j 0).isLt
  refine (congrFun (h.read_unread x) ((Rect.unit (s := S3x1408) ![k.val, 0] S1x1408.size inb).emb j)).trans (congrArg x ?_)
  funext a
  match a with
  | ⟨0, _⟩ => exact Fin.ext (by show k.val + 1 * (j 0).val = k.val; omega)
  | ⟨1, _⟩ => exact Fin.ext (by show 0 + 1 * (j 1).val = (j 1).val; omega)

/-! ## What a point leaves -/

/-- The normalised rows: made at a tile's first point, kept for its second. -/
def xnOut (i : grid0.Coords) (x0 : Vec F S512x1024 .f32) (x1 : Vec F S1x1024 .f32) (xn : Vec F S512x1024 .bf16) : Vec F S512x1024 .bf16 :=
  if (i 1).val = 0 then k0_pay5 x0 x1 else xn
/-- The history: the zeros given where a sequence starts, else the last rows of the tile before. -/
def histOut (i : grid0.Coords) (x7 : Vec F S8x1408 .f32) (e : Vec F S2x528x1408 .f32) : Vec F S1x8x1408 .f32 :=
  if (i 0).val % 8 = 0 then k0_pay6 x7 else k0_pay7 (slabRows e (i 1))
/-- The gated values of the point's half of the columns. -/
def gate (xn : Vec F S512x1024 .bf16) (x2 x3 : Vec F S1024x1408 .bf16) (x5 : Vec F S3x1408 .f32) (x6 : Vec F S1x1408 .f32)
    (hist : Vec F S1x8x1408 .f32) : FVec F S512x1408 .bf16 :=
  k0_pay13 xn (k0_pay8 xn x2) x6 (wRow x5 2) (wRow x5 1) (winAt 7 hist (k0_pay9 xn x2)) (wRow x5 0) (winAt 6 hist (k0_pay9 xn x2)) x3
/-- The output block: the residual with the first half's product, then that with the second's, normalised. -/
def yOut (i : grid0.Coords) (x0 : Vec F S512x1024 .f32) (x4 : Vec F S1408x1024 .bf16) (x8 : Vec F S1x1024 .f32) (y : Vec F S512x1024 .f32)
    (g : FVec F S512x1408 .bf16) : Vec F S512x1024 .f32 :=
  if (i 1).val = 0 then k0_pay2 (k0_pay12 x4) g x0 else k0_pay4 (k0_pay3 (k0_pay12 x4) g y) x8
/-- The block of the last gate rows. -/
def tailOut (hist : Vec F S1x8x1408 .f32) (up : Vec F S1x512x1408 .f32) : Vec F S1x8x1408 .f32 :=
  k0_pay11 (k0_pay10 (lastRows hist up))

/-- The kernel's branches, by the grid's coordinates. -/
abbrev condF (i : grid0.Coords) : Prop := (Scalar.cmpi .ne (Scalar.extui (Scalar.cmpi .eq (BitVec.ofNat 32 (i 1).val) 0#32)) 0#32) = 1#1
theorem conds : ∀ i : grid0.Coords, (condF i ↔ (i 1).val = 0) ∧ (k0_cond2 i = 1#1 ↔ (i 0).val % 8 = 0) ∧ (k0_cond3 i = 1#1 ↔ ¬(i 0).val % 8 = 0)
    ∧ (k0_cond4 i = 1#1 ↔ (i 1).val = 0) ∧ (k0_cond5 i = 1#1 ↔ ¬(i 1).val = 0) ∧ (k0_cond6 i = 1#1 ↔ ¬(i 1).val = 0) := by
  decide +kernel

end Cert.FfnIdeal.Body
-- ==== Proof.FfnPoint.lean ====
module

public import proofs.«01_k».proof.Proof.FfnRows
public import proofs.«01_k».proof.Proof.FfnExt

/-! The feed-forward kernel's payloads at an index. -/

@[expose] public section

-- the blocks' axes have up to 1408 elements
set_option maxRecDepth 16384

noncomputable section

namespace Cert.FfnIdeal.Point

open Idealize.ShloMosaic Idealize.SL.Sem Cert.FfnIdeal Cert.FfnIdeal.Gen Cert.FfnIdeal.Body Cert.Rows Cert.FfnRows

theorem norm_at (x : Vec Ideal S512x1024 .f32) (g : Vec Ideal S1x1024 .f32) (r : Fin 512) (k : Fin 1024) :
    k0_pay5 x g (ix2 r k) = normRow (fun j => x (ix2 r j)) (fun j => g (ix2 0 j)) k := by
  pointwise [k0_pay5]
  rfl
theorem last_norm_at (x : Vec Ideal S512x1024 .f32) (g : Vec Ideal S1x1024 .f32) (r : Fin 512) (k : Fin 1024) :
    k0_pay4 x g (ix2 r k) = normRow (fun j => x (ix2 r j)) (fun j => g (ix2 0 j)) k := by
  pointwise [k0_pay4]
  rfl
theorem up_at (xn : Vec Ideal S512x1024 .bf16) (w : Vec Ideal S1024x1408 .bf16) (r : Fin 512) (l : Fin 1408) :
    k0_pay8 xn w (ix2 r l) = ∑ k, xn (ix2 r k) * w (ix2 k l) := by
  pointwise [k0_pay8]
theorem up_at' (xn : Vec Ideal S512x1024 .bf16) (w : Vec Ideal S1024x1408 .bf16) (r : Fin 512) (l : Fin 1408) :
    k0_pay9 xn w (ix3 0 r l) = ∑ k, xn (ix2 r k) * w (ix2 k l) := by
  refine Eq.trans ?_ (up_at xn w r l)
  pointwise [k0_pay9]
theorem hist_first_at (x : Vec Ideal S8x1408 .f32) (q : Fin 8) (l : Fin 1408) : k0_pay6 x (ix3 0 q l) = x (ix2 q l) := by
  pointwise [k0_pay6]
theorem hist_next_at (x : Vec Ideal S1x8x1408 .f32) (q : Fin 8) (l : Fin 1408) : k0_pay7 x (ix3 0 q l) = x (ix3 0 q l) := by
  pointwise [k0_pay7]
theorem tail_at (hist : Vec Ideal S1x8x1408 .f32) (up : Vec Ideal S1x512x1408 .f32) (q : Fin 8) (l : Fin 1408) :
    tailOut hist up (ix3 0 q l) = rowOf hist up (512 + q.val) l := by
  unfold tailOut
  pointwise [k0_pay10, k0_pay11]
  rfl
theorem down_first_at (wd : Vec Ideal S1408x1024 .bf16) (h : FVec Ideal S512x1408 .bf16) (x : Vec Ideal S512x1024 .f32) (r : Fin 512) (l : Fin 1024) :
    k0_pay2 (k0_pay12 wd) h x (ix2 r l) = x (ix2 r l) + ∑ k, h (ix2 r k) * wd (ix2 k l) := by
  pointwise [k0_pay2, k0_pay1, k0_pay12]
theorem down_next_at (wd : Vec Ideal S1408x1024 .bf16) (h : FVec Ideal S512x1408 .bf16) (x : Vec Ideal S512x1024 .f32) (r : Fin 512) (l : Fin 1024) :
    k0_pay3 (k0_pay12 wd) h x (ix2 r l) = x (ix2 r l) + ∑ k, h (ix2 r k) * wd (ix2 k l) := by
  pointwise [k0_pay3, k0_pay1, k0_pay12]

/-- A gated value from the rows before it in the buffer. -/
theorem gate_at (xn : Vec Ideal S512x1024 .bf16) (x2 x3 : Vec Ideal S1024x1408 .bf16) (x5 : Vec Ideal S3x1408 .f32) (x6 : Vec Ideal S1x1408 .f32)
    (hist : Vec Ideal S1x8x1408 .f32) (r : Fin 512) (l : Fin 1408) :
    gate xn x2 x3 x5 x6 hist (ix2 r l)
      = silu (convOf (x6 (ix2 0 l)) (x5 (ix2 0 l)) (x5 (ix2 1 l)) (x5 (ix2 2 l)) (rowOf hist (k0_pay9 xn x2) (6 + r.val) l)
          (rowOf hist (k0_pay9 xn x2) (7 + r.val) l) (k0_pay8 xn x2 (ix2 r l))) * ∑ k, xn (ix2 r k) * x3 (ix2 k l) := by
  rw [← convOf_rev]
  unfold gate
  generalize k0_pay9 xn x2 = up
  generalize k0_pay8 xn x2 = u
  have e (a : ℕ) : winAt a hist up (ix3 0 r l) = rowOf hist up (a + r.val) l := rfl
  have ew (a : Fin 3) : wRow x5 a (ix2 0 l) = x5 (ix2 a l) := rfl
  rw [← e 6, ← e 7, ← ew 0, ← ew 1, ← ew 2]
  generalize winAt 6 hist up = w6
  generalize winAt 7 hist up = w7
  generalize wRow x5 0 = a0
  generalize wRow x5 1 = a1
  generalize wRow x5 2 = a2
  pointwise [k0_pay13]
  unfold silu
  rw [zero_sub]

end Cert.FfnIdeal.Point
-- ==== Proof.FfnLoads.lean ====
module

public import proofs.«01_k».proof.Proof.FfnExt

/-! The feed-forward kernel's loads and stores of one point, joined: what its stores leave, in terms of
the contents of the inputs and the scratch. Over any float values. -/

@[expose] public section

set_option maxRecDepth 16384

noncomputable section

namespace Cert.FfnIdeal.Body

open Idealize.ShloMosaic Idealize.SL.Sem Cert.FfnIdeal Cert.FfnIdeal.Gen

variable {F : FTy → Type} [FloatOps F]

/-- A slab after a point: its last rows are the history's and the tile's, and the other slab is as it was. -/
def SlabOk (i : grid0.Coords) (hist : Vec F S1x8x1408 .f32) (up : Vec F S1x512x1408 .f32) (e e' : Vec F S2x528x1408 .f32) : Prop :=
  slabRows e' (i 1) = lastRows hist up ∧ ∀ p : Fin 2, p ≠ i 1 → slabRows e' p = slabRows e p

section Whole

variable {s : Shape} {t : EltTy} (arg : Memref sig .tc .vmem s t) (h : arg.IsWhole) {off off' : Fin s.rank → ℕ}
    (inb : ∀ a, off a + s.size a ≤ s.size a) (inb' : ∀ a, off' a + s.size a ≤ s.size a)

/-- A load of a whole buffer. -/
theorem load_whole (x : s.Idx → Elt F t) : arg.view.readAt (Elt F) (Rect.unit (s := s) off s.size inb).toLoadRect (h.unread x) = x := by
  rw [View.readAt_full]
  exact h.read_unread x
/-- A load of a whole buffer after a store of the whole. -/
theorem load_stored (g : arg.view.ty.Contents (Elt F)) (x : s.Idx → Elt F t) (L) :
    arg.view.readAt (Elt F) (Rect.unit (s := s) off s.size inb).toLoadRect
      (arg.view.writes (Elt F) g (⟨Rect.unit (s := s) off' s.size inb', x⟩ :: L)) = x := by
  rw [View.readAt_full]
  exact View.read_writes_full _ _ _ _ _

end Whole

variable (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S3x1408 .f32) (harg7 : arg7.IsWhole) (arg8 : Memref sig .tc .vmem S1x1408 .f32) (harg8 : arg8.IsWhole) (arg9 : Memref sig .tc .vmem S8x1408 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x8x1408 .f32) (arg13 : Memref sig .tc .vmem S512x1024 .bf16) (harg13 : arg13.IsWhole) (arg14 : Memref sig .tc .vmem S2x528x1408 .f32) (harg14 : arg14.IsWhole)
    (x0 : Vec F S512x1024 .f32) (x1 : Vec F S1x1024 .f32) (x2 : Vec F S1024x1408 .bf16) (x3 : Vec F S1024x1408 .bf16) (x4 : Vec F S1408x1024 .bf16) (x5 : Vec F S3x1408 .f32) (x6 : Vec F S1x1408 .f32) (x7 : Vec F S8x1408 .f32) (x8 : Vec F S1x1024 .f32)
    (y : Vec F S512x1024 .f32) (xn : Vec F S512x1024 .bf16) (e : Vec F S2x528x1408 .f32)
    (g11 : arg11.view.ty.Contents (Elt F)) (g12 : arg12.view.ty.Contents (Elt F)) (g13 : arg13.view.ty.Contents (Elt F)) (g14 : arg14.view.ty.Contents (Elt F))

/-! ## The loads -/

abbrev ld2 : Vec F S512x1024 .f32 :=
  arg2.view.readAt (Elt F) (Rect.unit (s := S512x1024) ![0, 0] S512x1024.size inb_S512x1024_S512x1024_0_0).toLoadRect (harg2.unread x0)
abbrev ld3 : Vec F S1x1024 .f32 :=
  arg3.view.readAt (Elt F) (Rect.unit (s := S1x1024) ![0, 0] S1x1024.size inb_S1x1024_S1x1024_0_0).toLoadRect (harg3.unread x1)
abbrev ld4 : Vec F S1024x1408 .bf16 :=
  arg4.view.readAt (Elt F) (Rect.unit (s := S1024x1408) ![0, 0] S1024x1408.size inb_S1024x1408_S1024x1408_0_0).toLoadRect (harg4.unread x2)
abbrev ld6 : Vec F S1408x1024 .bf16 :=
  arg6.view.readAt (Elt F) (Rect.unit (s := S1408x1024) ![0, 0] S1408x1024.size inb_S1408x1024_S1408x1024_0_0).toLoadRect (harg6.unread x4)
abbrev ld7 (k : ℕ) (inb : ∀ a, (![k, 0] : Fin 2 → ℕ) a + S1x1408.size a ≤ S3x1408.size a) : Vec F S1x1408 .f32 :=
  arg7.view.readAt (Elt F) (Rect.unit (s := S3x1408) ![k, 0] S1x1408.size inb).toLoadRect (harg7.unread x5)
abbrev ld8 : Vec F S1x1408 .f32 :=
  arg8.view.readAt (Elt F) (Rect.unit (s := S1x1408) ![0, 0] S1x1408.size inb_S1x1408_S1x1408_0_0).toLoadRect (harg8.unread x6)
abbrev ld9 : Vec F S8x1408 .f32 :=
  arg9.view.readAt (Elt F) (Rect.unit (s := S8x1408) ![0, 0] S8x1408.size inb_S8x1408_S8x1408_0_0).toLoadRect (harg9.unread x7)
abbrev ld11 (g : arg11.view.ty.Contents (Elt F)) : Vec F S512x1024 .f32 :=
  arg11.view.readAt (Elt F) (Rect.unit (s := S512x1024) ![0, 0] S512x1024.size inb_S512x1024_S512x1024_0_0).toLoadRect g
abbrev ld13 (g : arg13.view.ty.Contents (Elt F)) : Vec F S512x1024 .bf16 :=
  arg13.view.readAt (Elt F) (Rect.unit (s := S512x1024) ![0, 0] S512x1024.size inb_S512x1024_S512x1024_0_0).toLoadRect g

/-- The store of a block of the output's shape. -/
abbrev blk (z : Vec F S512x1024 .f32) : View.Piece (Elt F) S512x1024 .f32 :=
  ⟨Rect.unit (s := S512x1024) ![0, 0] S512x1024.size inb_S512x1024_S512x1024_0_0, z⟩
/-- The store of the normalised rows. -/
abbrev rows (z : Vec F S512x1024 .bf16) : View.Piece (Elt F) S512x1024 .bf16 :=
  ⟨Rect.unit (s := S512x1024) ![0, 0] S512x1024.size inb_S512x1024_S512x1024_0_0, z⟩

theorem xn_first (hf : (i 1).val = 0) :
    ld13 arg13 (arg13.view.writes (Elt F) g13 [rows (k0_pay5 (ld2 arg2 harg2 x0) (ld3 arg3 harg3 x1))]) = xnOut i x0 x1 xn := by
  unfold xnOut
  rw [if_pos hf]
  refine (load_stored arg13 _ _ _ _ _).trans (congr (congrArg k0_pay5 ?_) ?_)
  · exact load_whole _ _ _ _
  · exact load_whole _ _ _ _
theorem xn_later (hf : ¬(i 1).val = 0) : ld13 arg13 (harg13.unread xn) = xnOut i x0 x1 xn := by
  unfold xnOut
  rw [if_neg hf]
  exact load_whole _ _ _ _

theorem hist_start (hs : (i 0).val % 8 = 0) : k0_pay6 (ld9 arg9 harg9 x7) = histOut i x7 e := by
  unfold histOut
  rw [if_pos hs]
  exact congrArg _ (load_whole _ _ _ _)
theorem hist_next (hs : ¬(i 0).val % 8 = 0) (h3 : k0_cond3 i = 1#1) :
    k0_pay7 (arg14.view.readAt (Elt F) (Rect.unit (s := S2x528x1408) (k0_off2 i) S1x8x1408.size (k0_off2_inb i h3)).toLoadRect
      (harg14.unread e)) = histOut i x7 e := by
  unfold histOut
  rw [if_neg hs]
  exact congrArg _ (load_before arg14 harg14 e (i 1) (k0_off2_eq i) _)

/-! ## What is stored of them -/

section Joined

variable (v19 : Vec F S512x1024 .bf16) (hist : Vec F S1x8x1408 .f32) (h19 : v19 = xnOut i x0 x1 xn) (hh : hist = histOut i x7 e)
    {oh : Fin 3 → ℕ} (eh : oh = ![(i 1).val, 0, 0]) (inbh : ∀ a, oh a + S1x8x1408.size a ≤ S2x528x1408.size a)

/-- The slab after the point's stores. -/
abbrev slab : arg14.view.ty.Contents (Elt F) :=
  arg14.view.writes (Elt F) g14 (slabPieces inbh (k0_off4_inb i) hist (k0_pay9 v19 (ld4 arg4 harg4 x2)))

/-- The gated values as the point's loads give them. -/
abbrev gateLd : FVec F S512x1408 .bf16 :=
  k0_pay13 v19 (k0_pay8 v19 (ld4 arg4 harg4 x2)) (ld8 arg8 harg8 x6) (ld7 arg7 harg7 x5 2 inb_S3x1408_S1x1408_2_0)
    (ld7 arg7 harg7 x5 1 inb_S3x1408_S1x1408_1_0)
    (arg14.view.readAt (Elt F) (Rect.unit (s := S2x528x1408) (k0_off6 i) S1x512x1408.size (k0_off6_inb i)).toLoadRect
      (slab i arg4 harg4 arg14 x2 g14 v19 hist inbh))
    (ld7 arg7 harg7 x5 0 inb_S3x1408_S1x1408_0_0)
    (arg14.view.readAt (Elt F) (Rect.unit (s := S2x528x1408) (k0_off7 i) S1x512x1408.size (k0_off7_inb i)).toLoadRect
      (slab i arg4 harg4 arg14 x2 g14 v19 hist inbh))
    (ld4 arg5 harg5 x3)

include h19 hh eh in
theorem gate_eq : gateLd i arg4 harg4 arg5 harg5 arg7 harg7 arg8 harg8 arg14 x2 x3 x5 x6 g14 v19 hist inbh
    = gate (xnOut i x0 x1 xn) x2 x3 x5 x6 (histOut i x7 e) := by
  subst h19 hh
  unfold gateLd gate
  have e4 : ld4 arg4 harg4 x2 = x2 := load_whole _ _ _ _
  have e5 : ld4 arg5 harg5 x3 = x3 := load_whole _ _ _ _
  have e8 : ld8 arg8 harg8 x6 = x6 := load_whole _ _ _ _
  have r2 : ld7 arg7 harg7 x5 2 inb_S3x1408_S1x1408_2_0 = wRow x5 2 := load_row arg7 harg7 x5 2 rfl _
  have r1 : ld7 arg7 harg7 x5 1 inb_S3x1408_S1x1408_1_0 = wRow x5 1 := load_row arg7 harg7 x5 1 rfl _
  have r0 : ld7 arg7 harg7 x5 0 inb_S3x1408_S1x1408_0_0 = wRow x5 0 := load_row arg7 harg7 x5 0 rfl _
  rw [load_win arg14.view g14 (i 1).val eh (k0_off4_eq i) inbh (k0_off4_inb i) _ _ 7 (k0_off6_eq i) (by omega) (k0_off6_inb i),
    load_win arg14.view g14 (i 1).val eh (k0_off4_eq i) inbh (k0_off4_inb i) _ _ 6 (k0_off7_eq i) (by omega) (k0_off7_inb i),
    e4, e5, e8, r2, r1, r0]

include h19 hh eh in
theorem y_first (hf : (i 1).val = 0) : arg11.view.read (Elt F) (arg11.view.writes (Elt F) g11
      [blk (k0_pay2 (k0_pay12 (ld6 arg6 harg6 x4)) (gateLd i arg4 harg4 arg5 harg5 arg7 harg7 arg8 harg8 arg14 x2 x3 x5 x6 g14 v19 hist inbh)
        (ld2 arg2 harg2 x0))])
    = yOut i x0 x4 x8 y (gate (xnOut i x0 x1 xn) x2 x3 x5 x6 (histOut i x7 e)) := by
  refine (View.read_writes_full _ _ _ _ _).trans ?_
  unfold yOut
  rw [if_pos hf, gate_eq i arg4 harg4 arg5 harg5 arg7 harg7 arg8 harg8 arg14 x0 x1 x2 x3 x5 x6 x7 xn e g14 v19 hist h19 hh eh inbh]
  have e2 : ld2 arg2 harg2 x0 = x0 := load_whole _ _ _ _
  have e6 : ld6 arg6 harg6 x4 = x4 := load_whole _ _ _ _
  rw [e2, e6]

include h19 hh eh in
theorem y_later (hf : ¬(i 1).val = 0) (z : Vec F S512x1024 .f32)
      (hz : z = k0_pay3 (k0_pay12 (ld6 arg6 harg6 x4)) (gateLd i arg4 harg4 arg5 harg5 arg7 harg7 arg8 harg8 arg14 x2 x3 x5 x6 g14 v19 hist inbh)
        (ld11 arg11 (harg11.unread y))) (z' : Vec F S512x1024 .f32) (hz' : z' = z) (L) :
    arg11.view.read (Elt F) (arg11.view.writes (Elt F) g11 (blk (k0_pay4 z' (ld3 arg10 harg10 x8)) :: L))
    = yOut i x0 x4 x8 y (gate (xnOut i x0 x1 xn) x2 x3 x5 x6 (histOut i x7 e)) := by
  refine (View.read_writes_full _ _ _ _ _).trans ?_
  unfold yOut
  rw [if_neg hf, hz', hz, gate_eq i arg4 harg4 arg5 harg5 arg7 harg7 arg8 harg8 arg14 x0 x1 x2 x3 x5 x6 x7 xn e g14 v19 hist h19 hh eh inbh]
  have e3 : ld3 arg10 harg10 x8 = x8 := load_whole _ _ _ _
  have e6 : ld6 arg6 harg6 x4 = x4 := load_whole _ _ _ _
  have e11 : ld11 arg11 (harg11.unread y) = y := load_whole _ _ _ _
  rw [e3, e6, e11]

include h19 hh eh in
theorem tail_eq : arg12.view.read (Elt F) (arg12.view.writes (Elt F) g12
      [⟨Rect.unit (s := S1x8x1408) ![0, 0, 0] S1x8x1408.size inb_S1x8x1408_S1x8x1408_0_0_0, k0_pay11 (k0_pay10
        (arg14.view.readAt (Elt F) (Rect.unit (s := S2x528x1408) (k0_off5 i) S1x8x1408.size (k0_off5_inb i)).toLoadRect
          (slab i arg4 harg4 arg14 x2 g14 v19 hist inbh)))⟩])
    = tailOut (histOut i x7 e) (k0_pay9 (xnOut i x0 x1 xn) x2) := by
  subst h19 hh
  refine (View.read_writes_full _ _ _ _ _).trans ?_
  have e4 : ld4 arg4 harg4 x2 = x2 := load_whole _ _ _ _
  unfold tailOut
  rw [load_last arg14.view g14 (i 1).val eh (k0_off4_eq i) inbh (k0_off4_inb i) _ _ (k0_off5_eq i) (k0_off5_inb i), e4]

include h19 hh eh in
theorem slab_eq : SlabOk i (histOut i x7 e) (k0_pay9 (xnOut i x0 x1 xn) x2) e
    (arg14.view.read (Elt F) (slab i arg4 harg4 arg14 x2 (harg14.unread e) v19 hist inbh)) := by
  subst h19 hh
  have e4 : ld4 arg4 harg4 x2 = x2 := load_whole _ _ _ _
  constructor
  · funext j
    have hj : (j 1).val < 8 := (j 1).isLt
    unfold slabRows lastRows
    refine (read_rows arg14.view _ (i 1).val eh (k0_off4_eq i) inbh (k0_off4_inb i) _ _ _ rfl (by show 512 + (j 1).val < 520; omega)).trans ?_
    rw [e4]
    rfl
  · intro p hp
    funext j
    unfold slabRows
    refine (read_other arg14.view _ (i 1).val eh (k0_off4_eq i) inbh (k0_off4_inb i) _ _ _ fun h => hp (Fin.ext h)).trans ?_
    exact congrFun (harg14.read_unread e) _

end Joined

end Cert.FfnIdeal.Body
-- ==== Proof.FfnRun.lean ====
module

public import proofs.«01_k».proof.Proof.FfnLoads

/-! One point of the feed-forward kernel, run: from any contents of the two scratch buffers, what the
point leaves in them and in the two outputs. Over any float values. -/

@[expose] public section

-- the rectangles of the blocks have axes of up to 1408 elements
set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable {F : FTy → Type} [FloatOps F]

local notation "𝕄" => MT nD τ sig Unit (Elt F) ℕ (UR sig nD τ) ℕ

section Run

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S3x1408 .f32) (harg7 : arg7.IsWhole) (arg8 : Memref sig .tc .vmem S1x1408 .f32) (harg8 : arg8.IsWhole) (arg9 : Memref sig .tc .vmem S8x1408 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x8x1408 .f32) (harg12 : arg12.IsWhole) (arg13 : Memref sig .tc .vmem S512x1024 .bf16) (harg13 : arg13.IsWhole) (arg14 : Memref sig .tc .vmem S2x528x1408 .f32) (harg14 : arg14.IsWhole)
    (x0 : Vec F S512x1024 .f32) (x1 : Vec F S1x1024 .f32) (x2 : Vec F S1024x1408 .bf16) (x3 : Vec F S1024x1408 .bf16) (x4 : Vec F S1408x1024 .bf16) (x5 : Vec F S3x1408 .f32) (x6 : Vec F S1x1408 .f32) (x7 : Vec F S8x1408 .f32) (x8 : Vec F S1x1024 .f32)
    (y : Vec F S512x1024 .f32) (xn : Vec F S512x1024 .bf16) (e : Vec F S2x528x1408 .f32)

/-- What a point holds of its nine inputs. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8)

/-- What a point leaves in the outputs and the scratch. -/
def outs : sProp 𝕄 :=
  iprop(owns (c : Thread nD τ) arg11 fullShare
      (yOut i x0 x4 x8 y (gate (xnOut i x0 x1 xn) x2 x3 x5 x6 (histOut i x7 e)))
    ∗ owns (c : Thread nD τ) arg12 fullShare (tailOut (histOut i x7 e) (k0_pay9 (xnOut i x0 x1 xn) x2))
    ∗ owns (c : Thread nD τ) arg13 fullShare (xnOut i x0 x1 xn)
    ∗ ∃ e', ⌜SlabOk i (histOut i x7 e) (k0_pay9 (xnOut i x0 x1 xn) x2) e e'⌝ ∗ owns (c : Thread nD τ) arg14 fullShare e')

-- four runs of the whole body, one per case of its branches
set_option maxHeartbeats 4000000 in
theorem run (E : Set ℕ) (K : PUnit → sProp 𝕄) :
    iprop(ins c arg2 arg3 arg4 arg5 arg6 arg7 arg8 arg9 arg10 x0 x1 x2 x3 x4 x5 x6 x7 x8
        ∗ owns (c : Thread nD τ) arg11 fullShare y ∗ (∃ d, owns (c : Thread nD τ) arg12 fullShare d)
        ∗ owns (c : Thread nD τ) arg13 fullShare xn ∗ owns (c : Thread nD τ) arg14 fullShare e
        ∗ (iprop(ins c arg2 arg3 arg4 arg5 arg6 arg7 arg8 arg9 arg10 x0 x1 x2 x3 x4 x5 x6 x7 x8
            ∗ outs c i arg11 arg12 arg13 arg14 x0 x1 x2 x3 x4 x5 x6 x7 x8 y xn e) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  obtain ⟨c1, c2, c3, c4, c5, c6⟩ := conds i
  rw [cc0_conv_ffn_eq_skeleton]; unfold cc0_conv_ffn_skel; simp only [k0_part1_eq_skeleton, k0_part2_eq_skeleton]; unfold k0_part1_skel k0_part2_skel
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%d10, %f10, -, H10⟩, ⟨%f13, %hf13, H13⟩, ⟨%f14, %hf14, H14⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg13.eq_unread hf13; obtain rfl := harg14.eq_unread hf14
  by_cases hf : (i 1).val = 0 <;> by_cases hs : (i 0).val % 8 = 0
  all_goals
    simp only [hf, hs, iff_true, iff_false, not_true, not_false_iff] at c1 c2 c3 c4 c5 c6
    sl_exec (disch := first | sl_exact c1 | sl_exact c2 | sl_exact c3 | sl_exact c4 | sl_exact c5 | sl_exact c6)
    sl_step
    iapply Hk
    isplitl [H0 H1 H2 H3 H4 H5 H6 H7 H8]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      iexists _; isplitr; · ipureintro; exact harg10.read_unread _
      iexact H8
    isplitl [H9]
    · iexists _; isplitr
      swap; · iexact H9
      ipureintro
      first
        | have h : (i 1).val = 0 := hf; refine y_first i arg2 harg2 arg4 harg4 arg5 harg5 arg6 harg6 arg7 harg7 arg8 harg8 arg11 arg14 x0 x1 x2 x3 x4 x5 x6 x7 x8 y xn e _ _ _ _ ?_ ?_ ?_ _ h
        | refine y_later i arg4 harg4 arg5 harg5 arg6 harg6 arg7 harg7 arg8 harg8 arg10 harg10 arg11 harg11 arg14 x0 x1 x2 x3 x4 x5 x6 x7 x8 y xn e _ _ _ _ ?_ ?_ ?_ _ hf _ rfl _ (load_stored _ _ _ _ _ _) _
      · first
          | have h : (i 1).val = 0 := hf; exact xn_first i arg2 harg2 arg3 harg3 arg13 x0 x1 xn _ h
          | exact xn_later i arg13 harg13 x0 x1 xn hf
      · first
          | have h : (i 0).val % 8 = 0 := hs; exact hist_start i arg9 harg9 x7 e h
          | exact hist_next i arg14 harg14 x7 e hs c3
      · first
          | have h : (i 0).val % 8 = 0 := hs; exact k0_off3_eq i
          | exact k0_off1_eq i
    isplitl [H10]
    · iexists _; isplitr
      swap; · iexact H10
      ipureintro
      refine tail_eq i arg4 harg4 arg12 arg14 x0 x1 x2 x7 xn e _ _ _ _ ?_ ?_ ?_ _
      · first
          | have h : (i 1).val = 0 := hf; exact xn_first i arg2 harg2 arg3 harg3 arg13 x0 x1 xn _ h
          | exact xn_later i arg13 harg13 x0 x1 xn hf
      · first
          | have h : (i 0).val % 8 = 0 := hs; exact hist_start i arg9 harg9 x7 e h
          | exact hist_next i arg14 harg14 x7 e hs c3
      · first
          | have h : (i 0).val % 8 = 0 := hs; exact k0_off3_eq i
          | exact k0_off1_eq i
    isplitl [H13]
    · iexists _; isplitr
      swap; · iexact H13
      ipureintro
      first
        | have h : (i 1).val = 0 := hf; exact (View.readAt_full ..).symm.trans (xn_first i arg2 harg2 arg3 harg3 arg13 x0 x1 xn _ h)
        | exact (View.readAt_full ..).symm.trans (xn_later i arg13 harg13 x0 x1 xn hf)
    iexists _; isplitr
    swap
    · iexists _; isplitr
      swap; · iexact H14
      ipureintro
      exact rfl
    ipureintro
    refine slab_eq i arg4 harg4 arg14 harg14 x0 x1 x2 x7 xn e _ _ ?_ ?_ ?_ _
    · first
        | have h : (i 1).val = 0 := hf; exact xn_first i arg2 harg2 arg3 harg3 arg13 x0 x1 xn _ h
        | exact xn_later i arg13 harg13 x0 x1 xn hf
    · first
        | have h : (i 0).val % 8 = 0 := hs; exact hist_start i arg9 harg9 x7 e h
        | exact hist_next i arg14 harg14 x7 e hs c3
    · first
        | have h : (i 0).val % 8 = 0 := hs; exact k0_off3_eq i
        | exact k0_off1_eq i

end Run

end Cert.FfnIdeal.Body
-- ==== Proof.FfnBody.lean ====
module

public import proofs.«01_k».proof.Proof.FfnRun
public import Idealize.ShloMosaic.Lib.Claim

/-! The feed-forward kernel over its grid: what each point leaves, what the two scratch buffers hold between
points, and the run of the whole program. Over any float values. -/

@[expose] public section

-- the rectangles of the blocks have axes of up to 1408 elements
set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The grid's points -/

theorem coords_eq : ∀ t : Fin cfg0.N, (grid0.coords t 0).val = t.val / 2 ∧ (grid0.coords t 1).val = t.val % 2 :=
  (by decide +kernel : ∀ t : Fin grid0.N, _)
theorem lt64 (t : Fin cfg0.N) : t.val < 64 := lt_of_lt_of_eq t.isLt (show cfg0.N = 64 from N_0)
/-- The point `n` of the grid. -/
abbrev pt (n : ℕ) (h : n < 64) : Fin cfg0.N := ⟨n, lt_of_lt_of_eq h N_0.symm⟩
/-- The first point of a point's tile. -/
def first (t : Fin cfg0.N) : Fin cfg0.N := pt (t.val / 2 * 2) (by have := lt64 t; omega)
/-- The point `k` before. -/
def back (k : ℕ) (t : Fin cfg0.N) : Fin cfg0.N := pt (t.val - k) (by have := lt64 t; omega)

theorem first_of_even (t : Fin cfg0.N) (h : t.val % 2 = 0) : first t = t := Fin.ext (by show t.val / 2 * 2 = t.val; omega)
theorem first_of_odd (t s : Fin cfg0.N) (h : t.val % 2 = 1) (hs : s.val + 1 = t.val) : first s = first t :=
  Fin.ext (by show s.val / 2 * 2 = t.val / 2 * 2; omega)

/-- The last rows do not reach the history. -/
theorem lastRows_tile (h h' : Vec F S1x8x1408 .f32) (up : Vec F S1x512x1408 .f32) : lastRows h up = lastRows h' up := by
  funext j
  unfold lastRows rowOf
  rw [dif_neg (by omega), dif_neg (by omega)]

variable (m : (ℓ : Loc nD τ sig) → Buf (Elt F) ℓ) (ρ : Dev nD → PrngReg)

/-! ## What a point computes -/

/-- The tile's normalised rows. -/
def xnAt (c : Dev nD) (t : Fin cfg0.N) : Vec F S512x1024 .bf16 := k0_pay5 (iblk m c 0 (first t)) (iblk m c 1 (first t))
/-- The tile's gate rows. -/
def upAt (c : Dev nD) (t : Fin cfg0.N) : Vec F S1x512x1408 .f32 := k0_pay9 (xnAt m c t) (iblk m c 2 t)
/-- Their last rows. -/
def lastAt (c : Dev nD) (t : Fin cfg0.N) : Vec F S1x8x1408 .f32 := lastRows (k0_pay6 (iblk m c 7 t)) (upAt m c t)
/-- The rows before the tile. -/
def histAt (c : Dev nD) (t : Fin cfg0.N) : Vec F S1x8x1408 .f32 :=
  if t.val / 2 % 8 = 0 then k0_pay6 (iblk m c 7 t) else k0_pay7 (lastAt m c (back 2 t))
/-- The gated values. -/
def gateAt (c : Dev nD) (t : Fin cfg0.N) : FVec F S512x1408 .bf16 :=
  gate (xnAt m c t) (iblk m c 2 t) (iblk m c 3 t) (iblk m c 5 t) (iblk m c 6 t) (histAt m c t)
/-- The output after a tile's first point. -/
def yHalf (c : Dev nD) (t : Fin cfg0.N) : Vec F S512x1024 .f32 := k0_pay2 (k0_pay12 (iblk m c 4 t)) (gateAt m c t) (iblk m c 0 t)
/-- The output after a tile's second point. -/
def yFull (c : Dev nD) (t : Fin cfg0.N) : Vec F S512x1024 .f32 :=
  k0_pay4 (k0_pay3 (k0_pay12 (iblk m c 4 t)) (gateAt m c t) (yHalf m c (back 1 t))) (iblk m c 8 t)
/-- The output after a point. -/
def yAt (c : Dev nD) (t : Fin cfg0.N) : Vec F S512x1024 .f32 := if t.val % 2 = 0 then yHalf m c t else yFull m c t
/-- The block of last gate rows a point leaves. -/
def tailAt (c : Dev nD) (t : Fin cfg0.N) : Vec F S1x8x1408 .f32 := tailOut (histAt m c t) (upAt m c t)

/-! ## What the scratch holds before a point -/

/-- Before point `n`: within a tile its normalised rows; of each half of the columns the last rows of the point before that worked it. -/
def Inv (c : Dev nD) (n : ℕ) (xn : Vec F S512x1024 .bf16) (e : Vec F S2x528x1408 .f32) : Prop :=
  (∀ s : Fin cfg0.N, s.val + 1 = n → xn = xnAt m c s)
    ∧ ∀ s : Fin cfg0.N, s.val < n → n ≤ s.val + 2 → slabRows e (grid0.coords s 1) = lastAt m c s

section Point

variable (c : Dev nD) (t : Fin cfg0.N) (y : Vec F S512x1024 .f32) (xn : Vec F S512x1024 .bf16) (e : Vec F S2x528x1408 .f32) (hI : Inv m c t.val xn e)

include hI in
theorem xn_eq : xnOut (grid0.coords t) (iblk m c 0 t) (iblk m c 1 t) xn = xnAt m c t := by
  obtain ⟨-, e1⟩ := coords_eq t
  unfold xnOut
  by_cases h : t.val % 2 = 0
  · rw [if_pos (e1.trans h)]
    unfold xnAt
    rw [first_of_even t h]
  · rw [if_neg (fun h' => h (e1.symm.trans h'))]
    have hs : (back 1 t).val + 1 = t.val := by show t.val - 1 + 1 = t.val; omega
    rw [hI.1 (back 1 t) hs]
    unfold xnAt
    rw [first_of_odd t (back 1 t) (by omega) hs]

include hI in
theorem hist_eq : histOut (grid0.coords t) (iblk m c 7 t) e = histAt m c t := by
  obtain ⟨e0, e1⟩ := coords_eq t
  unfold histOut histAt
  rw [e0]
  by_cases h : t.val / 2 % 8 = 0
  · rw [if_pos h, if_pos h]
  · rw [if_neg h, if_neg h]
    have hb : (back 2 t).val = t.val - 2 := rfl
    have hp : grid0.coords (back 2 t) 1 = grid0.coords t 1 := Fin.ext (by rw [(coords_eq (back 2 t)).2, e1, hb]; omega)
    rw [← hp, hI.2 (back 2 t) (by omega) (by omega)]

theorem y_eq (hy : t.val % 2 = 1 → y = yAt m c (back 1 t)) :
    yOut (grid0.coords t) (iblk m c 0 t) (iblk m c 4 t) (iblk m c 8 t) y (gateAt m c t) = yAt m c t := by
  obtain ⟨-, e1⟩ := coords_eq t
  unfold yOut
  by_cases h : t.val % 2 = 0
  · rw [if_pos (e1.trans h)]
    unfold yAt
    rw [if_pos h]
    rfl
  · rw [if_neg (fun h' => h (e1.symm.trans h')), hy (by omega)]
    have hb : (back 1 t).val = t.val - 1 := rfl
    have h1 : yAt m c (back 1 t) = yHalf m c (back 1 t) := by unfold yAt; rw [if_pos (by omega)]
    have h2 : yAt m c t = yFull m c t := by unfold yAt; rw [if_neg h]
    rw [h1, h2]
    rfl

include hI in
theorem inv_next (e' : Vec F S2x528x1408 .f32) (h : SlabOk (grid0.coords t) (histAt m c t) (upAt m c t) e e') : Inv m c (t.val + 1) (xnAt m c t) e' := by
  refine ⟨fun s hs => ?_, fun s hs hs' => ?_⟩
  · obtain rfl : s = t := Fin.ext (by omega)
    rfl
  · by_cases hst : s = t
    · subst hst
      exact h.1.trans (lastRows_tile _ _ _)
    · have hlt : s.val < t.val := by have := fun h => hst (Fin.ext h); omega
      have hp : grid0.coords s 1 ≠ grid0.coords t 1 := fun h => by
        have := congrArg Fin.val h
        rw [(coords_eq s).2, (coords_eq t).2] at this
        omega
      exact (h.2 _ hp).trans (hI.2 s hlt (by omega))

end Point

/-! ## The pipeline's proof data -/

/-- The scratch of the normalised rows, and that of the gate rows. -/
abbrev scX : Memref sig .tc .vmem S512x1024 .bf16 := Memref.whole cc0_scratch0
abbrev scE : Memref sig .tc .vmem S2x528x1408 .f32 := Memref.whole cc0_scratch1

/-- The invariant before point `n`. -/
def PhiF (c : Dev nD) (n : ℕ) : sProp 𝕄 :=
  iprop((∃ xn e, ⌜Inv m c n xn e⌝ ∗ owns (c : Thread nD τ) scX fullShare xn ∗ owns (c : Thread nD τ) scE fullShare e) ∗ (∃ r, prngReg c r))

theorem PhiA_eq (c : Dev nD) : (Pipeline.ΦA spec0 c : sProp 𝕄)
    = iprop(((∃ xn, owns (c : Thread nD τ) scX fullShare xn) ∗ (∃ e, owns (c : Thread nD τ) scE fullShare e)) ∗ (∃ r, prngReg c r)) := by
  unfold Pipeline.ΦA
  rw [scopedRest0_eq]
  simp only [scX, scE, owns_whole]
  try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yAt m c t
    | ⟨10, _⟩ => tailAt m c t
  Φ t := PhiF m c t.val
  q w := Pipeline.shareOf cfg0.spec w
  owed _ := 0

theorem A_eq (c : Dev nD) (w : Fin cfg0.W) : (dats m 0 c).A w = V m c (Pipeline.arrRef spec0 w) := by
  dsimp only [dats]

section Windows

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = yAt m c t := by dsimp only [dats]
theorem after0_10 : (dats m 0 c).after 10 t = tailAt m c t := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
/-- Every point stores the output. -/
theorem idle_out : ∀ i : grid0.Coords, cfg0.idle 9 i = false := by
  show ∀ i : grid0.Coords, (!(k0_cond4 i == 1#1) && !(k0_cond5 i == 1#1) && !(k0_cond6 i == 1#1)) = false
  decide +kernel
/-- At a tile's second point the output's buffer holds what the first left. -/
theorem before0_9 (d) (h : t.val % 2 = 1) : (dats m 0 c).before 9 t d = yAt m c (back 1 t) :=
  ((dats m 0 c).before_out_kept 9 rfl t (by omega)
    (by rw [Bool.eq_false_iff]; intro h'; have := (flush0_9 _).mp h'; dsimp only at this; omega)
    idle_out (fun _ _ => rfl) d).trans (after0_9 m c _)

/-- What the body is called with, and what it returns. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- What a point leaves, in the grid's terms. -/
theorem outs_eq (arg11 : Memref sig .tc .vmem S512x1024 .f32) (arg12 : Memref sig .tc .vmem S1x8x1408 .f32) (y : Vec F S512x1024 .f32)
    (hy : t.val % 2 = 1 → y = yAt m c (back 1 t)) (xn : Vec F S512x1024 .bf16) (e : Vec F S2x528x1408 .f32) (hI : Inv m c t.val xn e) :
    outs c (grid0.coords t) arg11 arg12 scX scE (iblk m c 0 t) (iblk m c 1 t) (iblk m c 2 t) (iblk m c 3 t) (iblk m c 4 t) (iblk m c 5 t)
        (iblk m c 6 t) (iblk m c 7 t) (iblk m c 8 t) y xn e
      = (iprop(owns (c : Thread nD τ) arg11 fullShare (yAt m c t) ∗ owns (c : Thread nD τ) arg12 fullShare (tailAt m c t)
        ∗ owns (c : Thread nD τ) scX fullShare (xnAt m c t)
        ∗ ∃ e', ⌜SlabOk (grid0.coords t) (histAt m c t) (upAt m c t) e e'⌝ ∗ owns (c : Thread nD τ) scE fullShare e') : sProp 𝕄) := by
  unfold outs
  rw [xn_eq m c t xn e hI, hist_eq m c t xn e hI]
  have hg : gate (xnAt m c t) (iblk m c 2 t) (iblk m c 3 t) (iblk m c 5 t) (iblk m c 6 t) (histAt m c t) = gateAt m c t := rfl
  have hu : k0_pay9 (xnAt m c t) (iblk m c 2 t) = upAt m c t := rfl
  rw [hg, hu, y_eq m c t y hy]
  rfl

set_option maxHeartbeats 3200000 in
theorem sound_body : bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiF m c (t.val + 1) from rfl, show (dats m 0 c).Φ t.castSucc = PhiF m c t.val from rfl]
  unfold PhiF
  iintro ⟨⟨⟨%xn, %e, %hI, HX, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ scX (Memref.isWhole_whole _) scE (Memref.isWhole_whole _)
    (iblk m c 0 t) (iblk m c 1 t) (iblk m c 2 t) (iblk m c 3 t) (iblk m c 4 t) (iblk m c 5 t) (iblk m c 6 t) (iblk m c 7 t) (iblk m c 8 t)
    ((dats m 0 c).before 9 t d9) xn e Set.univ _)
  rw [outs_eq m c t _ _ _ (fun h => before0_9 m c t d9 h) xn e hI]
  unfold ins
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexists _; iexact H10
  isplitl [HX]; · iexact HX
  isplitl [HE]; · iexact HE
  iintro ⟨⟨H0, H1, H2, H3, H4, H5, H6, H7, H8⟩, H9, H10, HX, ⟨%e', %he, HE⟩⟩
  isplitl [HX HE Hg]
  · isplitl [HX HE]
    · iexists _; iexists _
      isplitr
      · ipureintro
        exact inv_next m c t xn e hI e' he
      isplitl [HX]; · iexact HX
      iexact HE
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row : defs₀ (F := F) .tc cfg0.body (cfg0.bodyArgs t (cfg0.slots t)) = bodyAt0 t := by
  unfold defs₀; rw [Defs.onTc_tc]

end Windows

theorem body_obligation (c : Dev nD) : BodyObligation (dats (F := F) m 0 c) (defs₀ (F := F)) Variants.none () Set.univ := fun t => by
  rw [bigSep_W0, bigSep_W0, defs₀_row]
  have h9 : cfg0.idle 9 (cfg0.grid.coords t) = false := idle_out _
  have h9' : idle0 9 (grid0.coords t) = false := h9
  simp only [h9]
  refine triple_restated (sound_body m c t) rfl .rfl fun _ => ?_
  unfold bodyPost
  rw [h9']

/-- Before the first point nothing is said of the scratch, -/
theorem hin (c : Dev nD) : Pipeline.ΦA spec0 c ⊢ (dats m 0 c).Φ 0 := by
  rw [show (dats m 0 c).Φ 0 = PhiF m c 0 from rfl, PhiA_eq]
  unfold PhiF
  iintro ⟨⟨⟨%xn, HX⟩, ⟨%e, HE⟩⟩, Hg⟩
  isplitl [HX HE]
  · iexists xn; iexists e
    isplitr
    · ipureintro
      exact ⟨fun s hs => by omega, fun s hs => by omega⟩
    isplitl [HX]; · iexact HX
    iexact HE
  iexact Hg
/-- and after the last its contents are forgotten. -/
theorem hout (c : Dev nD) : (dats m 0 c).Φ (Fin.last cfg0.N) ⊢ Pipeline.ΦA spec0 c := by
  rw [show (dats m 0 c).Φ (Fin.last cfg0.N) = PhiF m c cfg0.N from rfl, PhiA_eq]
  unfold PhiF
  iintro ⟨⟨%xn, %e, -, HX, HE⟩, Hg⟩
  isplitl [HX HE]
  · isplitl [HX]
    · iexists _; iexact HX
    iexists _; iexact HE
  iexact Hg

/-! ## The run -/

-- the launch theorem's implicit arguments are found by unfolding plain definitions in their types
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments unchanged and no counter raised. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Body
-- ==== Proof.FfnArrays.lean ====
module

public import proofs.«01_k».proof.Proof.FfnBody

/-! The feed-forward kernel's two arrays after a run: every block as its last point leaves it. -/

@[expose] public section

-- the rectangles of the blocks have axes of up to 1408 elements
set_option maxRecDepth 16384

noncomputable section

namespace Cert.FfnIdeal.Body

open Idealize.ShloMosaic Idealize.SL.Sem Cert.FfnIdeal Cert.FfnIdeal.Gen

variable {F : FTy → Type} [FloatOps F]
variable (m : (ℓ : Loc nD τ sig) → Buf (Elt F) ℓ) (ρ : Dev nD → PrngReg) (c : Dev nD)

/-- The output: a tile's rows are what its second point leaves. -/
def G9 : Vec F S16384x1024 .f32 := fun i =>
  yAt m c (pt (2 * ((i 0).val / 512) + 1) (by have : (i 0).val < 16384 := (i 0).isLt; omega))
    (ix2 ⟨(i 0).val % 512, Nat.mod_lt _ (by decide)⟩ (i 1))
/-- The last gate rows: a tile's, each half of the columns from the point that works it. -/
def G10 : Vec F S32x8x2816 .f32 := fun i =>
  tailAt m c (pt (2 * (i 0).val + (i 2).val / 1408) (by
      have : (i 0).val < 32 := (i 0).isLt
      have : (i 2).val < 2816 := (i 2).isLt
      omega))
    (ix3 0 (i 1) ⟨(i 2).val % 1408, Nat.mod_lt _ (by decide)⟩)

theorem index_out : ∀ t : Fin cfg0.N, (win0_9.index t (0 : Fin 2) = t.val / 2 ∧ win0_9.index t (1 : Fin 2) = 0)
    ∧ (win0_10.index t (0 : Fin 3) = t.val / 2 ∧ win0_10.index t (1 : Fin 3) = 0 ∧ win0_10.index t (2 : Fin 3) = t.val % 2) :=
  (by decide +kernel : ∀ t : Fin grid0.N, _)

theorem flushed9_eq (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  have ho := (flush0_9 t).mp hf
  obtain ⟨e0, e1⟩ := (index_out t).1
  funext y
  have hy0 : (y 0).val < 512 := (y 0).isLt
  have hy1 : (y 1).val < 1024 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1024 + 1 * (y 1).val := rfl
  show yAt m c t ((cfg0.win 9).xinj (grid0.coords t) y) = G9 m c (((cfg0.win 9).blk t).view.emb y)
  unfold G9
  refine congr (congrArg (yAt m c) (Fin.ext ?_)) (funext fun a => Fin.ext ?_)
  · show t.val = 2 * ((((cfg0.win 9).blk t).view.emb y 0).val / 512) + 1
    rw [hb0]
    omega
  · match a with
    | ⟨0, _⟩ => show (y 0).val = (((cfg0.win 9).blk t).view.emb y 0).val % 512; rw [hb0]; omega
    | ⟨1, _⟩ => show (y 1).val = (((cfg0.win 9).blk t).view.emb y 1).val; rw [hb1]; omega

theorem mem_blk9 (t : Fin cfg0.N) (i : S16384x1024.Idx) : i ∈ ((cfg0.win 9).blk t).view.set ↔ ∀ a : Fin 2,
    win0_9.index t a * S512x1024.size a ≤ (i a).val ∧ (i a).val < win0_9.index t a * S512x1024.size a + S512x1024.size a := by
  show i ∈ ((View.whole main_v7_0).slice (win0_9.rect t)).set ↔ _
  rw [View.set_slice_whole, Rect.mem_set_unit]
  exact Iff.rfl

theorem final9 : (dats m 0 c).arrAt 9 cfg0.N = G9 m c :=
  (dats m 0 c).arrAt_eq_of_cover 9 _ (fun t hf => flushed9_eq m c t hf) fun i => by
    have h0 : (i 0).val < 16384 := (i 0).isLt
    have h1 : (i 1).val < 1024 := (i 1).isLt
    refine ⟨pt (2 * ((i 0).val / 512) + 1) (by omega), (flush0_9 _).mpr (by dsimp only; omega), ?_⟩
    obtain ⟨e0, e1⟩ := (index_out (pt (2 * ((i 0).val / 512) + 1) (by omega))).1
    dsimp only at e0
    refine (mem_blk9 _ i).mpr fun a => ?_
    match a with
    | ⟨0, _⟩ => show win0_9.index _ (0 : Fin 2) * 512 ≤ (i 0).val ∧ (i 0).val < win0_9.index _ (0 : Fin 2) * 512 + 512; omega
    | ⟨1, _⟩ => show win0_9.index _ (1 : Fin 2) * 1024 ≤ (i 1).val ∧ (i 1).val < win0_9.index _ (1 : Fin 2) * 1024 + 1024; omega

theorem flushed10_eq (t : Fin cfg0.N) :
    (dats m 0 c).flushed 10 t = ((cfg0.win 10).blk t).view.read (Elt F) (G10 m c) := by
  show (cfg0.win 10).cut (grid0.coords t) ((dats m 0 c).after 10 t) = _
  rw [after0_10]
  obtain ⟨e0, e1, e2⟩ := (index_out t).2
  funext y
  have hy0 : (y 0).val < 1 := (y 0).isLt
  have hy1 : (y 1).val < 8 := (y 1).isLt
  have hy2 : (y 2).val < 1408 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 8 + 1 * (y 1).val := rfl
  have hb2 : (((cfg0.win 10).blk t).view.emb y 2).val = win0_10.index t (2 : Fin 3) * 1408 + 1 * (y 2).val := rfl
  show tailAt m c t ((cfg0.win 10).xinj (grid0.coords t) y) = G10 m c (((cfg0.win 10).blk t).view.emb y)
  unfold G10
  refine congr (congrArg (tailAt m c) (Fin.ext ?_)) (funext fun a => Fin.ext ?_)
  · show t.val = 2 * (((cfg0.win 10).blk t).view.emb y 0).val + (((cfg0.win 10).blk t).view.emb y 2).val / 1408
    rw [hb0, hb2]
    omega
  · match a with
    | ⟨0, _⟩ => show (y 0).val = 0; omega
    | ⟨1, _⟩ => show (y 1).val = (((cfg0.win 10).blk t).view.emb y 1).val; rw [hb1]; omega
    | ⟨2, _⟩ => show (y 2).val = (((cfg0.win 10).blk t).view.emb y 2).val % 1408; rw [hb2]; omega

theorem mem_blk10 (t : Fin cfg0.N) (i : S32x8x2816.Idx) : i ∈ ((cfg0.win 10).blk t).view.set ↔ ∀ a : Fin 3,
    win0_10.index t a * S1x8x1408.size a ≤ (i a).val ∧ (i a).val < win0_10.index t a * S1x8x1408.size a + S1x8x1408.size a := by
  show i ∈ ((View.whole main_v7_1).slice (win0_10.rect t)).set ↔ _
  rw [View.set_slice_whole, Rect.mem_set_unit]
  exact Iff.rfl

theorem final10 : (dats m 0 c).arrAt 10 cfg0.N = G10 m c :=
  (dats m 0 c).arrAt_eq_of_cover 10 _ (fun t _ => flushed10_eq m c t) fun i => by
    have h0 : (i 0).val < 32 := (i 0).isLt
    have h1 : (i 1).val < 8 := (i 1).isLt
    have h2 : (i 2).val < 2816 := (i 2).isLt
    refine ⟨pt (2 * (i 0).val + (i 2).val / 1408) (by omega), flush0_10 _, ?_⟩
    obtain ⟨e0, e1, e2⟩ := (index_out (pt (2 * (i 0).val + (i 2).val / 1408) (by omega))).2
    dsimp only at e0 e2
    refine (mem_blk10 _ i).mpr fun a => ?_
    match a with
    | ⟨0, _⟩ => show win0_10.index _ (0 : Fin 3) * 1 ≤ (i 0).val ∧ (i 0).val < win0_10.index _ (0 : Fin 3) * 1 + 1; omega
    | ⟨1, _⟩ => show win0_10.index _ (1 : Fin 3) * 8 ≤ (i 1).val ∧ (i 1).val < win0_10.index _ (1 : Fin 3) * 8 + 8; omega
    | ⟨2, _⟩ => show win0_10.index _ (2 : Fin 3) * 1408 ≤ (i 2).val ∧ (i 2).val < win0_10.index _ (2 : Fin 3) * 1408 + 1408; omega

/-- Every run ends with the two arrays and the arguments unchanged. -/
theorem run_arrays : θ_run defs (onTc (τ := τ) (main (F := F))) ⟨m, fun _ => 0, ρ⟩ fun r => ∀ c : Dev nD,
      r.2.mem ((c.tc : Thread nD τ).loc main_v7_0) = G9 m c
      ∧ r.2.mem ((c.tc : Thread nD τ).loc main_v7_1) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 9).trans (final9 m c), ((h.1 c).1 10).trans (final10 m c), h.2 c⟩)
    (θ_run_and (run_main m ρ) (frame_of m ρ (dats m) (A_eq m) (run_main m ρ)))

end Cert.FfnIdeal.Body
-- ==== Proof.FfnSweep.lean ====
module

public import proofs.«01_k».proof.Proof.FfnPoint
public import proofs.«01_k».proof.Proof.FfnArrays
public import Idealize.ShloMosaic.Lib.StableHlo.ReadAt

/-! The feed-forward kernel, element by element: its blocks as elements of the arguments, then each point's
arrays as the layer's values. -/

@[expose] public section

-- the blocks' axes have up to 1408 elements
set_option maxRecDepth 16384

noncomputable section

namespace Cert.FfnIdeal.Sweep

open Idealize.ShloMosaic Idealize.SL.Sem Cert.FfnIdeal Cert.FfnIdeal.Gen Cert.FfnIdeal.Body Cert.FfnIdeal.Point Cert.Rows Cert.FfnRows

variable (m : (ℓ : Loc nD τ sig) → Buf (Elt Ideal) ℓ) (c : Dev nD)

/-! ## The arguments, and the arrays the host makes of them -/

def aX (b : Fin 4) (t : Fin 4096) (k : Fin 1024) : EReal := (m ((c.tc : Thread nD τ).loc main_arg0) : FVec Ideal S4x4096x1024 .f32) (ix3 b t k)
def aG (k : Fin 1024) : EReal := (m ((c.tc : Thread nD τ).loc main_arg1) : FVec Ideal S1024 .f32) (ix1 k)
def aW (k : Fin 1024) (j : Fin 5632) : EReal := (m ((c.tc : Thread nD τ).loc main_arg2) : FVec Ideal S1024x5632 .f32) (ix2 k j)
def aCw (k : Fin 3) (j : Fin 2816) : EReal := (m ((c.tc : Thread nD τ).loc main_arg3) : FVec Ideal S3x2816 .f32) (ix2 k j)
def aCb (j : Fin 2816) : EReal := (m ((c.tc : Thread nD τ).loc main_arg4) : FVec Ideal S2816 .f32) (ix1 j)
def aWd (j : Fin 2816) (k : Fin 1024) : EReal := (m ((c.tc : Thread nD τ).loc main_arg5) : FVec Ideal S2816x1024 .f32) (ix2 j k)
def aGf (k : Fin 1024) : EReal := (m ((c.tc : Thread nD τ).loc main_arg6) : FVec Ideal S1024 .f32) (ix1 k)

theorem host_x (n : Fin 16384) (k : Fin 1024) : (V m c main_v0 : Vec Ideal S16384x1024 .f32) (ix2 n k)
    = aX m c ⟨n.val / 4096, by omega⟩ ⟨n.val % 4096, by omega⟩ k := by
  unfold V aX
  after_reads_at
theorem host_g (k : Fin 1024) : (V m c main_v1 : Vec Ideal S1x1024 .f32) (ix2 0 k) = aG m c k := by
  unfold V aG
  after_reads_at
theorem host_w (k : Fin 1024) (j : Fin 5632) : (V m c main_v2 : Vec Ideal S1024x5632 .bf16) (ix2 k j) = aW m c k j := by
  unfold V aW
  after_reads_at
theorem host_wd (j : Fin 2816) (k : Fin 1024) : (V m c main_v3 : Vec Ideal S2816x1024 .bf16) (ix2 j k) = aWd m c j k := by
  unfold V aWd
  after_reads_at
theorem host_cw (k : Fin 3) (j : Fin 2816) : (V m c main_arg3 : Vec Ideal S3x2816 .f32) (ix2 k j) = aCw m c k j := by
  unfold V aCw
  after_reads_at
theorem host_cb (j : Fin 2816) : (V m c main_v4 : Vec Ideal S1x2816 .f32) (ix2 0 j) = aCb m c j := by
  unfold V aCb
  after_reads_at
theorem host_z (q : Fin 8) (j : Fin 2816) : (V m c main_v5 : Vec Ideal S8x2816 .f32) (ix2 q j) = (0 : EReal) := by
  unfold V
  after_reads_at
theorem host_gf (k : Fin 1024) : (V m c main_v6 : Vec Ideal S1x1024 .f32) (ix2 0 k) = aGf m c k := by
  unfold V aGf
  after_reads_at

/-! ## The blocks -/

/-- Where the windows of the arguments stand. -/
theorem index_in : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = 2 + t.val % 2)
    ∧ (win0_4.index t (0 : Fin 2) = t.val % 2 ∧ win0_4.index t (1 : Fin 2) = 0)
    ∧ (win0_5.index t (0 : Fin 2) = 0 ∧ win0_5.index t (1 : Fin 2) = t.val % 2)
    ∧ (win0_6.index t (0 : Fin 2) = 0 ∧ win0_6.index t (1 : Fin 2) = t.val % 2)
    ∧ (win0_7.index t (0 : Fin 2) = 0 ∧ win0_7.index t (1 : Fin 2) = t.val % 2)
    ∧ (win0_8.index t (0 : Fin 2) = 0 ∧ win0_8.index t (1 : Fin 2) = 0) :=
  (by decide +kernel : ∀ t : Fin grid0.N, _)

/-- Column `l` of a point's half. -/
def col (t : Fin cfg0.N) (l : Fin 1408) : Fin 2816 := ⟨t.val % 2 * 1408 + l.val, by omega⟩
/-- Row `r` of a point's tile: its sequence, and its place there. -/
def seqOf (t : Fin cfg0.N) : Fin 4 := ⟨t.val / 16, by have := lt64 t; omega⟩
def posOf (t : Fin cfg0.N) (r : ℕ) : ℕ := t.val / 2 % 8 * 512 + r
theorem pos_lt (t : Fin cfg0.N) (r : Fin 512) : posOf t r.val < 4096 := by unfold posOf; omega

theorem blk_x (t : Fin cfg0.N) (r : Fin 512) (k : Fin 1024) :
    (iblk m c 0 t : Vec Ideal S512x1024 .f32) (ix2 r k) = aX m c (seqOf t) ⟨posOf t r.val, pos_lt t r⟩ k := by
  obtain ⟨i0, i1⟩ := (index_in t).1
  have ht := lt64 t
  have e : (iblk m c 0 t : Vec Ideal S512x1024 .f32) (ix2 r k)
      = (V m c main_v0 : Vec Ideal S16384x1024 .f32) (ix2 ⟨t.val / 2 * 512 + r.val, by omega⟩ k) := by
    refine congrArg (V m c main_v0 : Vec Ideal S16384x1024 .f32) ?_
    funext a
    match a with
    | ⟨0, _⟩ => exact Fin.ext ((congrArg (· * 512 + 1 * r.val) i0).trans (by show _ = t.val / 2 * 512 + r.val; omega))
    | ⟨1, _⟩ => exact Fin.ext ((congrArg (· * 1024 + 1 * k.val) i1).trans (by show _ = k.val; omega))
  have e1 : (⟨(t.val / 2 * 512 + r.val) / 4096, by omega⟩ : Fin 4) = seqOf t := Fin.ext (by show _ = t.val / 16; dsimp only; omega)
  have e2 : (⟨(t.val / 2 * 512 + r.val) % 4096, by omega⟩ : Fin 4096) = ⟨posOf t r.val, pos_lt t r⟩ :=
    Fin.ext (by unfold posOf; dsimp only; omega)
  rw [e, host_x]
  exact congr (congr (congrArg (aX m c) e1) e2) rfl

theorem blk_g (t : Fin cfg0.N) (k : Fin 1024) : (iblk m c 1 t : Vec Ideal S1x1024 .f32) (ix2 0 k) = aG m c k := by
  obtain ⟨i0, i1⟩ := (index_in t).2.1
  refine Eq.trans (congrArg (V m c main_v1 : Vec Ideal S1x1024 .f32) ?_) (host_g m c k)
  funext a
  match a with
  | ⟨0, _⟩ => exact Fin.ext ((congrArg (· * 1 + 1 * 0) i0).trans rfl)
  | ⟨1, _⟩ => exact Fin.ext ((congrArg (· * 1024 + 1 * k.val) i1).trans (by show _ = k.val; omega))

theorem blk_gate (t : Fin cfg0.N) (k : Fin 1024) (l : Fin 1408) :
    (iblk m c 2 t : Vec Ideal S1024x1408 .bf16) (ix2 k l) = aW m c k ⟨(col t l).val, by omega⟩ := by
  obtain ⟨i0, i1⟩ := (index_in t).2.2.1
  refine Eq.trans (congrArg (V m c main_v2 : Vec Ideal S1024x5632 .bf16) ?_) (host_w m c k _)
  funext a
  match a with
  | ⟨0, _⟩ => exact Fin.ext ((congrArg (· * 1024 + 1 * k.val) i0).trans (by show _ = k.val; omega))
  | ⟨1, _⟩ => exact Fin.ext ((congrArg (· * 1408 + 1 * l.val) i1).trans (by show _ = t.val % 2 * 1408 + l.val; omega))

theorem blk_value (t : Fin cfg0.N) (k : Fin 1024) (l : Fin 1408) :
    (iblk m c 3 t : Vec Ideal S1024x1408 .bf16) (ix2 k l) = aW m c k ⟨2816 + (col t l).val, by omega⟩ := by
  obtain ⟨i0, i1⟩ := (index_in t).2.2.2.1
  refine Eq.trans (congrArg (V m c main_v2 : Vec Ideal S1024x5632 .bf16) ?_) (host_w m c k _)
  funext a
  match a with
  | ⟨0, _⟩ => exact Fin.ext ((congrArg (· * 1024 + 1 * k.val) i0).trans (by show _ = k.val; omega))
  | ⟨1, _⟩ => exact Fin.ext ((congrArg (· * 1408 + 1 * l.val) i1).trans (by show _ = 2816 + (t.val % 2 * 1408 + l.val); omega))

theorem blk_down (t : Fin cfg0.N) (l : Fin 1408) (k : Fin 1024) :
    (iblk m c 4 t : Vec Ideal S1408x1024 .bf16) (ix2 l k) = aWd m c (col t l) k := by
  obtain ⟨i0, i1⟩ := (index_in t).2.2.2.2.1
  refine Eq.trans (congrArg (V m c main_v3 : Vec Ideal S2816x1024 .bf16) ?_) (host_wd m c _ k)
  funext a
  match a with
  | ⟨0, _⟩ => exact Fin.ext ((congrArg (· * 1408 + 1 * l.val) i0).trans (by show _ = t.val % 2 * 1408 + l.val; omega))
  | ⟨1, _⟩ => exact Fin.ext ((congrArg (· * 1024 + 1 * k.val) i1).trans (by show _ = k.val; omega))

theorem blk_cw (t : Fin cfg0.N) (k : Fin 3) (l : Fin 1408) :
    (iblk m c 5 t : Vec Ideal S3x1408 .f32) (ix2 k l) = aCw m c k (col t l) := by
  obtain ⟨i0, i1⟩ := (index_in t).2.2.2.2.2.1
  refine Eq.trans (congrArg (V m c main_arg3 : Vec Ideal S3x2816 .f32) ?_) (host_cw m c k _)
  funext a
  match a with
  | ⟨0, _⟩ => exact Fin.ext ((congrArg (· * 3 + 1 * k.val) i0).trans (by show _ = k.val; omega))
  | ⟨1, _⟩ => exact Fin.ext ((congrArg (· * 1408 + 1 * l.val) i1).trans (by show _ = t.val % 2 * 1408 + l.val; omega))

theorem blk_cb (t : Fin cfg0.N) (l : Fin 1408) : (iblk m c 6 t : Vec Ideal S1x1408 .f32) (ix2 0 l) = aCb m c (col t l) := by
  obtain ⟨i0, i1⟩ := (index_in t).2.2.2.2.2.2.1
  refine Eq.trans (congrArg (V m c main_v4 : Vec Ideal S1x2816 .f32) ?_) (host_cb m c _)
  funext a
  match a with
  | ⟨0, _⟩ => exact Fin.ext ((congrArg (· * 1 + 1 * 0) i0).trans rfl)
  | ⟨1, _⟩ => exact Fin.ext ((congrArg (· * 1408 + 1 * l.val) i1).trans (by show _ = t.val % 2 * 1408 + l.val; omega))

theorem blk_z (t : Fin cfg0.N) (q : Fin 8) (l : Fin 1408) : (iblk m c 7 t : Vec Ideal S8x1408 .f32) (ix2 q l) = (0 : EReal) := by
  obtain ⟨i0, i1⟩ := (index_in t).2.2.2.2.2.2.2.1
  refine Eq.trans (congrArg (V m c main_v5 : Vec Ideal S8x2816 .f32) ?_) (host_z m c q (col t l))
  funext a
  match a with
  | ⟨0, _⟩ => exact Fin.ext ((congrArg (· * 8 + 1 * q.val) i0).trans (by show _ = q.val; omega))
  | ⟨1, _⟩ => exact Fin.ext ((congrArg (· * 1408 + 1 * l.val) i1).trans (by show _ = t.val % 2 * 1408 + l.val; omega))

theorem blk_gf (t : Fin cfg0.N) (k : Fin 1024) : (iblk m c 8 t : Vec Ideal S1x1024 .f32) (ix2 0 k) = aGf m c k := by
  obtain ⟨i0, i1⟩ := (index_in t).2.2.2.2.2.2.2.2
  refine Eq.trans (congrArg (V m c main_v6 : Vec Ideal S1x1024 .f32) ?_) (host_gf m c k)
  funext a
  match a with
  | ⟨0, _⟩ => exact Fin.ext ((congrArg (· * 1 + 1 * 0) i0).trans rfl)
  | ⟨1, _⟩ => exact Fin.ext ((congrArg (· * 1024 + 1 * k.val) i1).trans (by show _ = k.val; omega))

/-! ## A point's arrays -/

theorem xn_at (t : Fin cfg0.N) (r : Fin 512) (k : Fin 1024) :
    xnAt m c t (ix2 r k) = normRow (aX m c (seqOf t) ⟨posOf t r.val, pos_lt t r⟩) (aG m c) k := by
  have ht := lt64 t
  have hv : (first t).val = t.val / 2 * 2 := rfl
  have e1 : seqOf (first t) = seqOf t := Fin.ext (by show (first t).val / 16 = t.val / 16; omega)
  have e2 : (⟨posOf (first t) r.val, pos_lt (first t) r⟩ : Fin 4096) = ⟨posOf t r.val, pos_lt t r⟩ :=
    Fin.ext (by unfold posOf; dsimp only; omega)
  unfold xnAt
  rw [norm_at]
  refine congrFun (congr (congrArg normRow (funext fun l => (blk_x m c (first t) r l).trans ?_)) (funext fun l => blk_g m c (first t) l)) k
  rw [e1, e2]

/-- The projection up of the arguments. -/
abbrev up (b : Fin 4) (j : Fin 5632) (t : ℕ) : EReal := upOf (aX m c) (aG m c) (aW m c) b j t

theorem upOf_eq (t : Fin cfg0.N) (r : Fin 512) (j : Fin 5632) (w : Fin 1024 → EReal) (hw : ∀ k, w k = aW m c k j) :
    ∑ k, xnAt m c t (ix2 r k) * w k = up m c (seqOf t) j (posOf t r.val) := by
  have e : (⟨posOf t r.val % 4096, Nat.mod_lt _ (by decide)⟩ : Fin 4096) = ⟨posOf t r.val, pos_lt t r⟩ :=
    Fin.ext (Nat.mod_eq_of_lt (pos_lt t r))
  unfold up upOf upDot
  rw [e]
  exact Finset.sum_congr rfl fun k _ => by rw [xn_at, hw]

theorem upAt_at (t : Fin cfg0.N) (r : Fin 512) (l : Fin 1408) :
    upAt m c t (ix3 0 r l) = up m c (seqOf t) ⟨(col t l).val, by omega⟩ (posOf t r.val) := by
  unfold upAt
  rw [up_at']
  exact upOf_eq m c t r _ _ fun k => blk_gate m c t k l

/-- A row of the buffer past the history is the tile's. -/
theorem row_tile (h : Vec Ideal S1x8x1408 .f32) (t : Fin cfg0.N) (r : Fin 512) (l : Fin 1408) :
    rowOf h (upAt m c t) (8 + r.val) l = up m c (seqOf t) ⟨(col t l).val, by omega⟩ (posOf t r.val) := by
  have e : (⟨(8 + r.val - 8) % 512, Nat.mod_lt _ (by decide)⟩ : Fin 512) = r := Fin.ext (by dsimp only; omega)
  unfold rowOf
  rw [dif_neg (by omega), e, upAt_at]

/-- A row of the buffer, `d` before a row of the tile, is that token's, or zero before the sequence's start. -/
theorem row_before (t : Fin cfg0.N) (r : Fin 512) (l : Fin 1408) (d : ℕ) (hd : d ≤ 8) :
    rowOf (histAt m c t) (upAt m c t) (8 - d + r.val) l = before (up m c (seqOf t) ⟨(col t l).val, by omega⟩) d (posOf t r.val) := by
  have ht := lt64 t
  unfold before
  by_cases hr : r.val < d
  · have hq : 8 - d + r.val < 8 := by omega
    unfold rowOf histAt
    rw [dif_pos hq]
    by_cases h : t.val / 2 % 8 = 0
    · rw [if_pos h, if_pos (by unfold posOf; omega), hist_first_at]
      exact blk_z m c t _ l
    · rw [if_neg h, if_neg (by unfold posOf; omega), hist_next_at]
      have hb : (back 2 t).val = t.val - 2 := rfl
      have hl := row_tile m c (k0_pay6 (iblk m c 7 (back 2 t))) (back 2 t) ⟨504 + (8 - d + r.val), by omega⟩ l
      have e1 : seqOf (back 2 t) = seqOf t := Fin.ext (by show (back 2 t).val / 16 = t.val / 16; omega)
      have e2 : col (back 2 t) l = col t l := Fin.ext (by show (back 2 t).val % 2 * 1408 + l.val = t.val % 2 * 1408 + l.val; omega)
      have e3 : posOf (back 2 t) (504 + (8 - d + r.val)) = posOf t r.val - d := by unfold posOf; omega
      have e4 : 8 + (504 + (8 - d + r.val)) = 512 + (8 - d + r.val) := by omega
      dsimp only at hl
      rw [e4] at hl
      refine hl.trans ?_
      simp only [e1, e2, e3]
  · have hp : ¬posOf t r.val < d := by unfold posOf; omega
    rw [if_neg hp]
    have e : 8 - d + r.val = 8 + (r.val - d) := by omega
    have e3 : posOf t (r.val - d) = posOf t r.val - d := by unfold posOf; omega
    have hl := row_tile m c (histAt m c t) t ⟨r.val - d, by omega⟩ l
    dsimp only at hl
    rw [e, hl, e3]

/-- The gated values of the arguments. -/
abbrev hid (b : Fin 4) (j : Fin 2816) (t : ℕ) : EReal := hidOf (aX m c) (aG m c) (aW m c) (aCw m c) (aCb m c) b j t

theorem gateAt_at (t : Fin cfg0.N) (r : Fin 512) (l : Fin 1408) : gateAt m c t (ix2 r l) = hid m c (seqOf t) (col t l) (posOf t r.val) := by
  unfold gateAt
  rw [gate_at]
  have hu : k0_pay9 (xnAt m c t) (iblk m c 2 t) = upAt m c t := rfl
  have h2 := row_before m c t r l 2 (by decide)
  have h1 := row_before m c t r l 1 (by decide)
  have h0 : k0_pay8 (xnAt m c t) (iblk m c 2 t) (ix2 r l) = up m c (seqOf t) ⟨(col t l).val, by omega⟩ (posOf t r.val) :=
    (up_at _ _ r l).trans (upOf_eq m c t r _ _ fun k => blk_gate m c t k l)
  have hv := upOf_eq m c t r ⟨2816 + (col t l).val, by omega⟩ _ fun k => blk_value m c t k l
  rw [hu, h0, hv, blk_cb, blk_cw, blk_cw, blk_cw]
  unfold hid hidOf gated
  refine congrArg (fun a => silu a * _) ?_
  exact congrFun (congr (congrArg (convOf _ _ _ _) h2) h1) _

/-- The tail's block. -/
theorem tailAt_at (t : Fin cfg0.N) (q : Fin 8) (l : Fin 1408) :
    tailAt m c t (ix3 0 q l) = up m c (seqOf t) ⟨(col t l).val, by omega⟩ (posOf t (504 + q.val)) := by
  have hl := row_tile m c (histAt m c t) t ⟨504 + q.val, by omega⟩ l
  have e : 8 + (504 + q.val) = 512 + q.val := by omega
  dsimp only at hl
  rw [e] at hl
  unfold tailAt
  rw [tail_at, hl]

/-- The output of a tile's first point: half of the projection down, onto the input. -/
theorem yHalf_at (t : Fin cfg0.N) (r : Fin 512) (k : Fin 1024) : yHalf m c t (ix2 r k)
    = aX m c (seqOf t) ⟨posOf t r.val, pos_lt t r⟩ k + ∑ l, hid m c (seqOf t) (col t l) (posOf t r.val) * aWd m c (col t l) k := by
  unfold yHalf
  rw [down_first_at, blk_x]
  exact congrArg _ (Finset.sum_congr rfl fun l _ => by rw [gateAt_at, blk_down])

/-- The row of a token after the projection down. -/
abbrev mid (b : Fin 4) (t : Fin 4096) (l : Fin 1024) : EReal :=
  midOf (aX m c) (aG m c) (aW m c) (aCw m c) (aCb m c) (aWd m c) b t l

/-- The output of a tile's second point, before the last norm. -/
theorem sum_at (t : Fin cfg0.N) (ho : t.val % 2 = 1) (r : Fin 512) (k : Fin 1024) :
    k0_pay3 (k0_pay12 (iblk m c 4 t)) (gateAt m c t) (yHalf m c (back 1 t)) (ix2 r k)
      = mid m c (seqOf t) ⟨posOf t r.val, pos_lt t r⟩ k := by
  have ht := lt64 t
  have hb : (back 1 t).val = t.val - 1 := rfl
  have e1 : seqOf (back 1 t) = seqOf t := Fin.ext (by show (back 1 t).val / 16 = t.val / 16; omega)
  have e2 : posOf (back 1 t) r.val = posOf t r.val := by unfold posOf; omega
  have c0 (l : Fin 1408) : col (back 1 t) l = ⟨l.val, by omega⟩ := Fin.ext (by show (back 1 t).val % 2 * 1408 + l.val = l.val; omega)
  have c1 (l : Fin 1408) : col t l = ⟨1408 + l.val, by omega⟩ := Fin.ext (by show t.val % 2 * 1408 + l.val = 1408 + l.val; omega)
  rw [down_next_at, yHalf_at]
  unfold mid midOf
  rw [Fin.sum_univ_two_halves 1408 1408 rfl, ← add_assoc]
  simp only [e1, e2, c0]
  exact congrArg _ (Finset.sum_congr rfl fun l _ => by rw [gateAt_at, blk_down, c1])

theorem yFull_at (t : Fin cfg0.N) (ho : t.val % 2 = 1) (r : Fin 512) (k : Fin 1024) :
    yFull m c t (ix2 r k) = normRow (mid m c (seqOf t) ⟨posOf t r.val, pos_lt t r⟩) (aGf m c) k := by
  unfold yFull
  rw [last_norm_at]
  exact congrFun (congr (congrArg normRow (funext fun l => sum_at m c t ho r l)) (funext fun l => blk_gf m c t l)) k

/-! ## The two results -/

theorem G9_at (n : Fin 16384) (k : Fin 1024) : G9 m c (ix2 n k)
    = outOf (aX m c) (aG m c) (aW m c) (aCw m c) (aCb m c) (aWd m c) (aGf m c) n k := by
  have hp : 2 * (n.val / 512) + 1 < 64 := by omega
  have e : G9 m c (ix2 n k) = yAt m c (pt (2 * (n.val / 512) + 1) hp) (ix2 ⟨n.val % 512, Nat.mod_lt _ (by decide)⟩ k) := rfl
  have ey (t : Fin cfg0.N) (ht : t.val % 2 = 1) : yAt m c t = yFull m c t := by
    unfold yAt
    rw [if_neg (by omega)]
  have e1 : seqOf (pt (2 * (n.val / 512) + 1) hp) = ⟨n.val / 4096, by omega⟩ :=
    Fin.ext (by show (2 * (n.val / 512) + 1) / 16 = n.val / 4096; omega)
  have e2 : posOf (pt (2 * (n.val / 512) + 1) hp) (n.val % 512) = n.val % 4096 := by
    show (2 * (n.val / 512) + 1) / 2 % 8 * 512 + n.val % 512 = n.val % 4096
    omega
  rw [e, ey _ (by dsimp only; omega), yFull_at m c _ (by dsimp only; omega)]
  unfold outOf
  refine congrFun (congrFun (congrArg normRow ?_) (aGf m c)) k
  simp only [e1, e2]

theorem G10_at (i : Fin 32) (q : Fin 8) (j : Fin 2816) : G10 m c (ix3 i q j) = tailRowOf (aX m c) (aG m c) (aW m c) i q j := by
  have hp : 2 * i.val + j.val / 1408 < 64 := by omega
  have e : G10 m c (ix3 i q j) = tailAt m c (pt (2 * i.val + j.val / 1408) hp) (ix3 0 q ⟨j.val % 1408, Nat.mod_lt _ (by decide)⟩) := rfl
  have e1 : seqOf (pt (2 * i.val + j.val / 1408) hp) = ⟨i.val / 8, by omega⟩ :=
    Fin.ext (by show (2 * i.val + j.val / 1408) / 16 = i.val / 8; omega)
  have e2 : posOf (pt (2 * i.val + j.val / 1408) hp) (504 + q.val) = i.val % 8 * 512 + (504 + q.val) := by
    show (2 * i.val + j.val / 1408) / 2 % 8 * 512 + (504 + q.val) = _
    omega
  have e3 : col (pt (2 * i.val + j.val / 1408) hp) ⟨j.val % 1408, Nat.mod_lt _ (by decide)⟩ = j :=
    Fin.ext (by show (2 * i.val + j.val / 1408) % 2 * 1408 + j.val % 1408 = j.val; omega)
  rw [e, tailAt_at]
  unfold tailRowOf
  simp only [e1, e2, e3]

end Cert.FfnIdeal.Sweep
-- ==== Proof.FfnClaim.lean ====
module

public import proofs.«01_k».proof.Defs
public import proofs.«01_k».proof.Proof.FfnRef
public import proofs.«01_k».proof.Proof.FfnSweep
public import proofs.«01_k».proof.Proof.Gen.Ffn.Frame
public import Idealize.ShloMosaic.Adequacy
public import Idealize.ShloMosaic.Init

/-! The claims about the feed-forward layer. -/

@[expose] public section

-- the programs' axes have thousands of elements
set_option maxRecDepth 16384

noncomputable section

namespace Cert.Proof.FfnClaim

open Idealize.ShloMosaic Idealize.SL.Sem

/-- The printed kernel and the ideal one have the same text: the same bodies, -/
theorem bodies_eq : (letI := Cert.Ffn.Gen.facts; @Cert.Ffn.defs₀ Bits _ _) = (letI := Cert.FfnIdeal.Gen.facts; @Cert.FfnIdeal.defs₀ Bits _ _) := by
  unfold Cert.Ffn.defs₀ Cert.FfnIdeal.defs₀
  refine congrArg Defs.onTc ?_
  funext l a
  match l with
  | 0 => rfl
/-- and the same tables of them. -/
theorem tables_eq : (letI := Cert.Ffn.Gen.facts; @Cert.Ffn.defs Bits _ _) = (letI := Cert.FfnIdeal.Gen.facts; @Cert.FfnIdeal.defs Bits _ _) :=
  congrArg (Pipeline.defs _) bodies_eq

/-- So the printed kernel's run is the one proved, over the machine's floats. -/
theorem frame_ffn : letI := Cert.Ffn.Gen.facts; Cert.quiescent_Ffn := fun m ρ _ => by
  rw [tables_eq]
  exact Cert.FfnIdeal.Body.frame_main (F := Bits) m ρ

theorem frame_ffn_ideal : letI := Cert.FfnIdeal.Gen.facts; Cert.quiescent_FfnIdeal := fun m ρ _ =>
  Cert.FfnIdeal.Body.frame_main m ρ

/-- The reference runs and leaves its arguments alone; it has no semaphore. -/
theorem frame_ref : letI := Cert.FfnRefIdeal.Gen.facts; Cert.quiescent_FfnRefIdeal := fun m ρ _ =>
  (θ_run Cert.FfnRefIdeal.defs _ _).mono (fun r h => ⟨fun c => (h c).2.2,
      Idealize.ShloMosaic.sem_eq_zero_of_no_sems (by decide) r.2⟩)
    (Cert.FfnRefIdeal.Ref.run_named m ρ)

variable (m : (ℓ : Loc Cert.FfnIdeal.nD Cert.FfnIdeal.τ Cert.FfnIdeal.sig) → Buf (Elt Ideal) ℓ) (c : Dev Cert.FfnIdeal.nD)

/-- The reference's first result, of the kernel's arguments. -/
theorem out_eq : Cert.FfnRefIdeal.Ref.outV (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5))
      (m ((c.tc : Thread Cert.FfnIdeal.nD Cert.FfnIdeal.τ).loc Cert.FfnIdeal.main_arg6)) = Cert.FfnIdeal.Body.G9 m c := by
  funext i
  obtain ⟨n, k, rfl⟩ : ∃ n k, i = ix2 n k := ⟨_, _, eq_ix2 i⟩
  exact (Cert.FfnRefIdeal.Ref.outV_at _ _ _ _ _ _ _ n k).trans (Cert.FfnIdeal.Sweep.G9_at m c n k).symm

/-- The reference's second result, of the kernel's arguments. -/
theorem tail_eq : Cert.FfnRefIdeal.Ref.tailV (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) = Cert.FfnIdeal.Body.G10 m c := by
  funext i
  obtain ⟨n, q, k, rfl⟩ : ∃ n q k, i = ix3 n q k := ⟨_, _, _, eq_ix3 i⟩
  exact (Cert.FfnRefIdeal.Ref.tailV_at _ _ _ n q k).trans (Cert.FfnIdeal.Sweep.G10_at m c n q k).symm

theorem algebraic_ffn : letI := Cert.FfnIdeal.Gen.facts; letI := Cert.FfnRefIdeal.Gen.facts
    Cert.algebraic_FfnIdeal_FfnRefIdeal := by
  intro m g m' g' _ hargs
  refine ⟨fun c => Cert.FfnIdeal.Body.G9 m c, fun c => Cert.FfnIdeal.Body.G10 m c, Cert.FfnIdeal.Body.run_arrays m g, ?_⟩
  refine (θ_run _ _ _).mono (fun _ r c => ?_) (Cert.FfnRefIdeal.Ref.run_named m' g')
  obtain ⟨g0, g1, g2, g3, g4, g5, g6⟩ := hargs c
  obtain ⟨h0, h1, h2⟩ := r c
  rw [g0, g1, g2, g3, g4, g5, g6] at h0
  rw [g0, g1, g2] at h1
  exact ⟨h0.trans (out_eq m c), h1.trans (tail_eq m c), h2⟩

end Cert.Proof.FfnClaim
-- ==== Proof.lean ====
module

public import proofs.«01_k».proof.Defs
public import proofs.«01_k».proof.Proof.Gen.ScanIdeal.Value
public import proofs.«01_k».proof.Proof.Gen.ScanRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.Pre_finite
public import proofs.«01_k».proof.Proof.Match
public import proofs.«01_k».proof.Proof.Finite
public import proofs.«01_k».proof.Proof.ProjClaim
public import proofs.«01_k».proof.Proof.FfnClaim
public import Idealize.ShloMosaic.Adequacy
public import Idealize.ShloMosaic.Init

@[expose] public section

noncomputable section

namespace Cert.Proof

open Idealize.ShloMosaic Idealize.SL.Sem Cert.Scan

/-- The kernel's call runs on bit patterns and leaves its arguments alone. -/
theorem frame_scan : Cert.quiescent_Scan := fun m ρ _ => Cert.Scan.Gen.frame m ρ

/-- The same call at the reals. -/
theorem frame_scan_ideal : Cert.quiescent_ScanIdeal := fun m ρ _ => Cert.ScanIdeal.Gen.frame m ρ

/-- The reference runs and leaves its arguments alone; it has no semaphore. -/
theorem frame_ref : Cert.quiescent_ScanRefIdeal := fun m ρ _ =>
  (θ_run Cert.ScanRefIdeal.defs _ _).mono (fun r h => ⟨fun c => (h c).2.2,
      Idealize.ShloMosaic.sem_eq_zero_of_no_sems (by decide) r.2⟩)
    (Cert.ScanRefIdeal.Value.run (F := Ideal) m ρ)

section Values

open Cert.Proof.Match Cert.ScanIdeal.ChunkReal

variable (m : (ℓ : Loc Cert.ScanIdeal.nD Cert.ScanIdeal.τ Cert.ScanIdeal.sig) → Buf (Elt Ideal) ℓ)
variable (m' : (ℓ : Loc Cert.ScanRefIdeal.nD Cert.ScanRefIdeal.τ Cert.ScanRefIdeal.sig) → Buf (Elt Ideal) ℓ)
variable (c : Dev Cert.ScanIdeal.nD) (R LW K V KK KKA : Fin 16384 → Fin 512 → ℝ)

/-- What the reference's loop leaves. -/
abbrev left :=
  Cert.ScanRefIdeal.Value.STEP^[4096] (StableHlo.entryContents Cert.ScanRefIdeal.Value.preI m' c)

/-- The results of the tokens are the same. -/
theorem results_eq (h : Cert.ScanIdeal.Sweep.Args m c R LW K V KK KKA) (h' : Cert.ScanRefIdeal.Ref.Args m' c R LW K V KK KKA) :
    Cert.ScanRefIdeal.Value.out_main_v17 (left m' c) = Cert.ScanIdeal.Value.G6 m c := by
  funext i
  obtain ⟨n, l, rfl⟩ : ∃ n l, i = ix2 n l := ⟨_, _, eq_ix2 i⟩
  refine (Cert.ScanRefIdeal.Ref.out17_eq h' n l).trans (Eq.trans ?_ (Cert.ScanIdeal.Sweep.G6_eq h n l).symm)
  refine congrArg _ (Eq.trans ?_ (resOf_eq R LW K V KK KKA _ _ _ _).symm)
  have e1 : headAt ⟨l.val / 128, by omega⟩ ⟨l.val % 128, Nat.mod_lt _ (by decide)⟩ = ⟨l.val / 64, by omega⟩ := Fin.ext (by
    show 2 * (l.val / 128) + l.val % 128 / 64 = l.val / 64
    omega)
  have e2 : inHead ⟨l.val % 128, Nat.mod_lt _ (by decide)⟩ = ⟨l.val % 64, Nat.mod_lt _ (by decide)⟩ := Fin.ext (by
    show l.val % 128 % 64 = l.val % 64
    omega)
  rw [e1, e2]

/-- The states after the last tokens are the same. -/
theorem states_eq (h : Cert.ScanIdeal.Sweep.Args m c R LW K V KK KKA) (h' : Cert.ScanRefIdeal.Ref.Args m' c R LW K V KK KKA) :
    Cert.ScanRefIdeal.Value.out_main_v26 (left m' c) = Cert.ScanIdeal.Value.G7 m c := by
  funext i
  obtain ⟨b, p, d, l, rfl⟩ : ∃ b p d l, i = ix4 b p d l := ⟨_, _, _, _, eq_ix4 i⟩
  refine (Cert.ScanRefIdeal.Ref.out26_eq h' b p d l).trans (Eq.trans ?_ (Cert.ScanIdeal.Sweep.G7_eq h b p d l).symm)
  rw [rowOf_eq]
  by_cases e : d.val / 64 = l.val / 64
  · rw [if_pos e, if_pos e]
    rfl
  · rw [if_neg e, if_neg e]
    exact EReal.coe_zero.symm

end Values

/-- The kernel's call and the reference compute the same results and states of all finite arguments. -/
theorem algebraic_scan : letI := Cert.ScanIdeal.Gen.facts; letI := Cert.ScanRefIdeal.Gen.facts; letI := Cert.Pre_finite.Gen.facts
    Cert.algebraic_ScanIdeal_ScanRefIdeal_pre_finite := by
  intro m g m' g' hpre hargs
  refine ⟨fun c => Cert.ScanIdeal.Value.G6 m c, fun c => Cert.ScanIdeal.Value.G7 m c, Cert.ScanIdeal.Value.run (F := Ideal) m g, ?_⟩
  refine (θ_run _ _ _).mono (fun _ r c => ?_) (Cert.ScanRefIdeal.Value.run (F := Ideal) m' g')
  obtain ⟨⟨R, hR⟩, ⟨LW, hLW⟩, ⟨K, hK⟩, ⟨V, hV⟩, ⟨KK, hKK⟩, ⟨KKA, hKKA⟩⟩ := Finite.all_reals _ _ _ _ _ _ (hpre c)
  obtain ⟨g0, g1, g2, g3, g4, g5⟩ := hargs c
  have h : Cert.ScanIdeal.Sweep.Args m c R LW K V KK KKA := ⟨hR, hLW, hK, hV, hKK, hKKA⟩
  have h' : Cert.ScanRefIdeal.Ref.Args m' c R LW K V KK KKA :=
    ⟨g0.trans hR, g1.trans hLW, g2.trans hK, g3.trans hV, g4.trans hKK, g5.trans hKKA⟩
  exact ⟨(r c).1.trans (results_eq m m' c R LW K V KK KKA h h'), (r c).2.1.trans (states_eq m m' c R LW K V KK KKA h h'), (r c).2.2⟩

theorem claim : Cert.Claim := ⟨
  Cert.Scan.Gen.facts, Cert.ScanIdeal.Gen.facts, Cert.ScanRefIdeal.Gen.facts, Cert.Proj.Gen.facts, Cert.ProjIdeal.Gen.facts,
  Cert.ProjRefIdeal.Gen.facts, Cert.Ffn.Gen.facts, Cert.FfnIdeal.Gen.facts, Cert.FfnRefIdeal.Gen.facts,
  Cert.Pre_finite.Gen.facts,
  frame_scan, frame_scan_ideal, fun m ρ _ => Cert.ScanIdeal.Gen.frame m ρ, frame_ref, fun m ρ _ => frame_ref m ρ trivial,
  ProjClaim.frame_proj, ProjClaim.frame_proj_ideal, ProjClaim.frame_ref, FfnClaim.frame_ffn, FfnClaim.frame_ffn_ideal,
  FfnClaim.frame_ref,
  trivial, algebraic_scan, trivial, ProjClaim.algebraic_proj, trivial, FfnClaim.algebraic_ffn⟩

end Cert.Proof

end
